-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v79) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x512 : Shape := ⟨2, ![1024, 512]⟩
abbrev S512x16 : Shape := ⟨2, ![512, 16]⟩
abbrev S1024x2 : Shape := ⟨2, ![1024, 2]⟩
abbrev S4x512x1024 : Shape := ⟨3, ![4, 512, 1024]⟩
abbrev S_ : Shape := ⟨0, ![]⟩

class Facts : Prop where
  bitsLt_bf16_f32 : FTy.bits .bf16 < FTy.bits .f32
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_

variable [Facts]

def fn {F : FTy → Type} [FloatOps F] (main_arg0 : FVec F S1024x512 .bf16) (main_arg1 : FVec F S512x16 .bf16) (main_arg2 : IVec S1024x2 32) (main_arg3 : FVec F S4x512x1024 .bf16) : IVec S_ 1 :=
  let main_v0 : FVec F S1024x512 .f32 := (extf .f32 · bitsLt_bf16_f32) main_arg0
  let main_v1 : FVec F S1024x512 .f32 := Host.absf main_v0
  let main_v2 : FVec F S512x16 .f32 := (extf .f32 · bitsLt_bf16_f32) main_arg1
  let main_v3 : FVec F S512x16 .f32 := Host.absf main_v2
  let main_cst : FVec F S_ .f32 := constant S_ .f32 0x7F800000#32
  let main_v4 : FVec F S1024x512 .f32 := broadcastInDim S1024x512 ![] bcast_S_S1024x512 main_cst
  let main_v5 : IVec S1024x512 1 := cmpf .olt main_v1 main_v4
  let main_c : IVec S_ 1 := constantI S_ 1 1#1
  let main_v6 : IVec S_ 1 := (fun x v => Host.reduce IntOp.andi x v reducesTo_S1024x512_S_d0_1 h_S_) main_v5 main_c
  let main_cst_0 : FVec F S_ .f32 := constant S_ .f32 0x7F800000#32
  let main_v7 : FVec F S512x16 .f32 := broadcastInDim S512x16 ![] bcast_S_S512x16 main_cst_0
  let main_v8 : IVec S512x16 1 := cmpf .olt main_v3 main_v7
  let main_c_1 : IVec S_ 1 := constantI S_ 1 1#1
  let main_v9 : IVec S_ 1 := (fun x v => Host.reduce IntOp.andi x v reducesTo_S512x16_S_d0_1 h_S_) main_v8 main_c_1
  let main_v10 : IVec S_ 1 := andi main_v6 main_v9
  main_v10
-- ==== Pre_finite_ReferenceIdeal.lean ====
abbrev S1024x512 : Shape := ⟨2, ![1024, 512]⟩
abbrev S512x16 : Shape := ⟨2, ![512, 16]⟩
abbrev S1024x2 : Shape := ⟨2, ![1024, 2]⟩
abbrev S16x512x1024 : Shape := ⟨3, ![16, 512, 1024]⟩
abbrev S_ : Shape := ⟨0, ![]⟩

class Facts : Prop where
  bitsLt_bf16_f32 : FTy.bits .bf16 < FTy.bits .f32
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_

variable [Facts]

def fn {F : FTy → Type} [FloatOps F] (main_arg0 : FVec F S1024x512 .bf16) (main_arg1 : FVec F S512x16 .bf16) (main_arg2 : IVec S1024x2 32) (main_arg3 : FVec F S16x512x1024 .bf16) : IVec S_ 1 :=
  let main_v0 : FVec F S1024x512 .f32 := (extf .f32 · bitsLt_bf16_f32) main_arg0
  let main_v1 : FVec F S1024x512 .f32 := Host.absf main_v0
  let main_v2 : FVec F S512x16 .f32 := (extf .f32 · bitsLt_bf16_f32) main_arg1
  let main_v3 : FVec F S512x16 .f32 := Host.absf main_v2
  let main_cst : FVec F S_ .f32 := constant S_ .f32 0x7F800000#32
  let main_v4 : FVec F S1024x512 .f32 := broadcastInDim S1024x512 ![] bcast_S_S1024x512 main_cst
  let main_v5 : IVec S1024x512 1 := cmpf .olt main_v1 main_v4
  let main_c : IVec S_ 1 := constantI S_ 1 1#1
  let main_v6 : IVec S_ 1 := (fun x v => Host.reduce IntOp.andi x v reducesTo_S1024x512_S_d0_1 h_S_) main_v5 main_c
  let main_cst_0 : FVec F S_ .f32 := constant S_ .f32 0x7F800000#32
  let main_v7 : FVec F S512x16 .f32 := broadcastInDim S512x16 ![] bcast_S_S512x16 main_cst_0
  let main_v8 : IVec S512x16 1 := cmpf .olt main_v3 main_v7
  let main_c_1 : IVec S_ 1 := constantI S_ 1 1#1
  let main_v9 : IVec S_ 1 := (fun x v => Host.reduce IntOp.andi x v reducesTo_S512x16_S_d0_1 h_S_) main_v8 main_c_1
  let main_v10 : IVec S_ 1 := andi main_v6 main_v9
  main_v10
-- ==== Kernel.lean ====
abbrev S1024x512 : Shape := ⟨2, ![1024, 512]⟩
abbrev S512x16 : Shape := ⟨2, ![512, 16]⟩
abbrev S1024x2 : Shape := ⟨2, ![1024, 2]⟩
abbrev S4x512x1024 : Shape := ⟨3, ![4, 512, 1024]⟩
abbrev S1024x1024 : Shape := ⟨2, ![1024, 1024]⟩
abbrev S3x512x256 : Shape := ⟨3, ![3, 512, 256]⟩
abbrev S4x512x256 : Shape := ⟨3, ![4, 512, 256]⟩
abbrev S3 : Shape := ⟨1, ![3]⟩
abbrev S_ : Shape := ⟨0, ![]⟩
abbrev S1024x16 : Shape := ⟨2, ![1024, 16]⟩
abbrev S1024 : Shape := ⟨1, ![1024]⟩
abbrev S1024x1 : Shape := ⟨2, ![1024, 1]⟩
abbrev S512x256 : Shape := ⟨2, ![512, 256]⟩
abbrev S1x512x256 : Shape := ⟨3, ![1, 512, 256]⟩
abbrev S512x512 : Shape := ⟨2, ![512, 512]⟩
abbrev S1 : Shape := ⟨1, ![1]⟩

abbrev nBuf : Space → Nat
  | .hbm => 5
  | .vmem => 11
  | .smem => 0
  | _ => 0

abbrev bufTy : (tb : Table) → Fin (tcTables nBuf tb) → BufTy
  | .hbm, ⟨0, _⟩ => ⟨S1024x512, .bf16⟩
  | .hbm, ⟨1, _⟩ => ⟨S512x16, .bf16⟩
  | .hbm, ⟨2, _⟩ => ⟨S1024x2, .i32⟩
  | .hbm, ⟨3, _⟩ => ⟨S4x512x1024, .bf16⟩
  | .hbm, ⟨4, _⟩ => ⟨S1024x1024, .f32⟩
  | .local _ .vmem, ⟨0, _⟩ => ⟨S1024x512, .bf16⟩
  | .local _ .vmem, ⟨1, _⟩ => ⟨S512x16, .bf16⟩
  | .local _ .vmem, ⟨2, _⟩ => ⟨S1024x2, .i32⟩
  | .local _ .vmem, ⟨3, _⟩ => ⟨S4x512x1024, .bf16⟩
  | .local _ .vmem, ⟨4, _⟩ => ⟨S1024x1024, .f32⟩
  | .local _ .vmem, ⟨5, _⟩ => ⟨S3x512x256, .bf16⟩
  | .local _ .vmem, ⟨6, _⟩ => ⟨S3x512x256, .bf16⟩
  | .local _ .vmem, ⟨7, _⟩ => ⟨S4x512x256, .bf16⟩
  | .local _ .vmem, ⟨8, _⟩ => ⟨S3x512x256, .bf16⟩
  | .local _ .vmem, ⟨9, _⟩ => ⟨S3x512x256, .bf16⟩
  | .local _ .vmem, ⟨10, _⟩ => ⟨S4x512x256, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let c0_30 : Index := 0#32
  let c0_31 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v116 : BitVec 32 := Scalar.muli v2 c256_i32
  let v117 : Index := Scalar.indexCast v116
  ![0, 0, v117.toNat]
def k0_off2 (d0 : Dev nD) : Fin 3 → Nat :=
  let c1_34 : Index := 1#32
  let c0_35 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_33 : BitVec 32 := 256#32
  let v123 : BitVec 32 := Scalar.muli v2 c256_i32_33
  let v124 : Index := Scalar.indexCast v123
  ![1, 0, v124.toNat]
def k0_off3 (d0 : Dev nD) : Fin 3 → Nat :=
  let c2 : Index := 2#32
  let c0_38 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_37 : BitVec 32 := 256#32
  let v130 : BitVec 32 := Scalar.muli v2 c256_i32_37
  let v131 : Index := Scalar.indexCast v130
  ![2, 0, v131.toNat]
def k0_off4 (d0 : Dev nD) : Fin 3 → Nat :=
  let c3 : Index := 3#32
  let c0_41 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_40 : BitVec 32 := 256#32
  let v137 : BitVec 32 := Scalar.muli v2 c256_i32_40
  let v138 : Index := Scalar.indexCast v137
  ![3, 0, v138.toNat]
def k0_dev3 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_70 : BitVec 32 := 1#32
  let v181 : BitVec 32 := Scalar.muli v7 c1_i32_70
  let v182 : BitVec 32 := Scalar.addi c0_i32_71 v181
  v182.toNat
def k0_dev4 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_80 : BitVec 32 := 1#32
  let v191 : BitVec 32 := Scalar.muli v5 c1_i32_80
  let v192 : BitVec 32 := Scalar.addi c0_i32_81 v191
  v192.toNat
def k0_off5 (d0 : Dev nD) (c0_i32_88 : BitVec 32) : Fin 3 → Nat :=
  let c0_92 : Index := 0#32
  let c0_93 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_86 : BitVec 32 := 4#32
  let v201 : BitVec 32 := Scalar.addi v2 c4_i32_86
  let c1_i32_87 : BitVec 32 := 1#32
  let v202 : BitVec 32 := Scalar.subi v201 c1_i32_87
  let v203 : BitVec 32 := Scalar.subi v202 c0_i32_88
  let c4_i32_89 : BitVec 32 := 4#32
  let v204 : BitVec 32 := Scalar.remsi v203 c4_i32_89
  let c256_i32_91 : BitVec 32 := 256#32
  let v206 : BitVec 32 := Scalar.muli v204 c256_i32_91
  let v207 : Index := Scalar.indexCast v206
  ![0, 0, v207.toNat]
def k0_off6 (d0 : Dev nD) (c0_i32_88 : BitVec 32) : Fin 3 → Nat :=
  let c1_96 : Index := 1#32
  let c0_97 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_86 : BitVec 32 := 4#32
  let v201 : BitVec 32 := Scalar.addi v2 c4_i32_86
  let c1_i32_87 : BitVec 32 := 1#32
  let v202 : BitVec 32 := Scalar.subi v201 c1_i32_87
  let v203 : BitVec 32 := Scalar.subi v202 c0_i32_88
  let c4_i32_89 : BitVec 32 := 4#32
  let v204 : BitVec 32 := Scalar.remsi v203 c4_i32_89
  let c256_i32_95 : BitVec 32 := 256#32
  let v213 : BitVec 32 := Scalar.muli v204 c256_i32_95
  let v214 : Index := Scalar.indexCast v213
  ![1, 0, v214.toNat]
def k0_off7 (d0 : Dev nD) (c0_i32_88 : BitVec 32) : Fin 3 → Nat :=
  let c2_100 : Index := 2#32
  let c0_101 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_86 : BitVec 32 := 4#32
  let v201 : BitVec 32 := Scalar.addi v2 c4_i32_86
  let c1_i32_87 : BitVec 32 := 1#32
  let v202 : BitVec 32 := Scalar.subi v201 c1_i32_87
  let v203 : BitVec 32 := Scalar.subi v202 c0_i32_88
  let c4_i32_89 : BitVec 32 := 4#32
  let v204 : BitVec 32 := Scalar.remsi v203 c4_i32_89
  let c256_i32_99 : BitVec 32 := 256#32
  let v220 : BitVec 32 := Scalar.muli v204 c256_i32_99
  let v221 : Index := Scalar.indexCast v220
  ![2, 0, v221.toNat]
def k0_off8 (d0 : Dev nD) (c0_i32_88 : BitVec 32) : Fin 3 → Nat :=
  let c3_104 : Index := 3#32
  let c0_105 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_86 : BitVec 32 := 4#32
  let v201 : BitVec 32 := Scalar.addi v2 c4_i32_86
  let c1_i32_87 : BitVec 32 := 1#32
  let v202 : BitVec 32 := Scalar.subi v201 c1_i32_87
  let v203 : BitVec 32 := Scalar.subi v202 c0_i32_88
  let c4_i32_89 : BitVec 32 := 4#32
  let v204 : BitVec 32 := Scalar.remsi v203 c4_i32_89
  let c256_i32_103 : BitVec 32 := 256#32
  let v227 : BitVec 32 := Scalar.muli v204 c256_i32_103
  let v228 : Index := Scalar.indexCast v227
  ![3, 0, v228.toNat]
def k0_off9 (d0 : Dev nD) (c0_i32_108 : BitVec 32) : Fin 3 → Nat :=
  let c0_112 : Index := 0#32
  let c0_113 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_107 : BitVec 32 := 1#32
  let v234 : BitVec 32 := Scalar.addi v2 c1_i32_107
  let v235 : BitVec 32 := Scalar.addi v234 c0_i32_108
  let c4_i32_109 : BitVec 32 := 4#32
  let v236 : BitVec 32 := Scalar.remsi v235 c4_i32_109
  let c256_i32_111 : BitVec 32 := 256#32
  let v238 : BitVec 32 := Scalar.muli v236 c256_i32_111
  let v239 : Index := Scalar.indexCast v238
  ![0, 0, v239.toNat]
def k0_off10 (d0 : Dev nD) (c0_i32_108 : BitVec 32) : Fin 3 → Nat :=
  let c1_116 : Index := 1#32
  let c0_117 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_107 : BitVec 32 := 1#32
  let v234 : BitVec 32 := Scalar.addi v2 c1_i32_107
  let v235 : BitVec 32 := Scalar.addi v234 c0_i32_108
  let c4_i32_109 : BitVec 32 := 4#32
  let v236 : BitVec 32 := Scalar.remsi v235 c4_i32_109
  let c256_i32_115 : BitVec 32 := 256#32
  let v245 : BitVec 32 := Scalar.muli v236 c256_i32_115
  let v246 : Index := Scalar.indexCast v245
  ![1, 0, v246.toNat]
def k0_off11 (d0 : Dev nD) (c0_i32_108 : BitVec 32) : Fin 3 → Nat :=
  let c2_120 : Index := 2#32
  let c0_121 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_107 : BitVec 32 := 1#32
  let v234 : BitVec 32 := Scalar.addi v2 c1_i32_107
  let v235 : BitVec 32 := Scalar.addi v234 c0_i32_108
  let c4_i32_109 : BitVec 32 := 4#32
  let v236 : BitVec 32 := Scalar.remsi v235 c4_i32_109
  let c256_i32_119 : BitVec 32 := 256#32
  let v252 : BitVec 32 := Scalar.muli v236 c256_i32_119
  let v253 : Index := Scalar.indexCast v252
  ![2, 0, v253.toNat]
def k0_off12 (d0 : Dev nD) (c0_i32_108 : BitVec 32) : Fin 3 → Nat :=
  let c3_124 : Index := 3#32
  let c0_125 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_107 : BitVec 32 := 1#32
  let v234 : BitVec 32 := Scalar.addi v2 c1_i32_107
  let v235 : BitVec 32 := Scalar.addi v234 c0_i32_108
  let c4_i32_109 : BitVec 32 := 4#32
  let v236 : BitVec 32 := Scalar.remsi v235 c4_i32_109
  let c256_i32_123 : BitVec 32 := 256#32
  let v259 : BitVec 32 := Scalar.muli v236 c256_i32_123
  let v260 : Index := Scalar.indexCast v259
  ![3, 0, v260.toNat]
def k0_dev5 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_181 : BitVec 32 := 1#32
  let v310 : BitVec 32 := Scalar.muli v7 c1_i32_181
  let v311 : BitVec 32 := Scalar.addi c0_i32_182 v310
  v311.toNat
def k0_dev6 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_191 : BitVec 32 := 1#32
  let v320 : BitVec 32 := Scalar.muli v5 c1_i32_191
  let v321 : BitVec 32 := Scalar.addi c0_i32_192 v320
  v321.toNat
def k0_dev7 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_292 : BitVec 32 := 1#32
  let v439 : BitVec 32 := Scalar.muli v7 c1_i32_292
  let v440 : BitVec 32 := Scalar.addi c0_i32_293 v439
  v440.toNat
def k0_dev8 (d0 : Dev nD) : Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_302 : BitVec 32 := 1#32
  let v449 : BitVec 32 := Scalar.muli v5 c1_i32_302
  let v450 : BitVec 32 := Scalar.addi c0_i32_303 v449
  v450.toNat
def k0_off13 (d0 : Dev nD) : Fin 2 → Nat :=
  let c0_405 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v560 : BitVec 32 := Scalar.addi v2 c1_i32_393
  let c4_i32_394 : BitVec 32 := 4#32
  let v561 : BitVec 32 := Scalar.remsi v560 c4_i32_394
  let c256_i32_404 : BitVec 32 := 256#32
  let v573 : BitVec 32 := Scalar.muli v561 c256_i32_404
  let v574 : Index := Scalar.indexCast v573
  ![0, v574.toNat]
def k0_off14 (d0 : Dev nD) : Fin 2 → Nat :=
  let c512 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_395 : BitVec 32 := 4#32
  let v562 : BitVec 32 := Scalar.addi v2 c4_i32_395
  let c1_i32_396 : BitVec 32 := 1#32
  let v563 : BitVec 32 := Scalar.subi v562 c1_i32_396
  let c4_i32_397 : BitVec 32 := 4#32
  let v564 : BitVec 32 := Scalar.remsi v563 c4_i32_397
  let c256_i32_406 : BitVec 32 := 256#32
  let v576 : BitVec 32 := Scalar.muli v564 c256_i32_406
  let v577 : Index := Scalar.indexCast v576
  ![512, v577.toNat]
def k0_dev9 (d0 : Dev nD) : Nat :=
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_411 : BitVec 32 := 1#32
  let v579 : BitVec 32 := Scalar.muli v7 c1_i32_411
  let v580 : BitVec 32 := Scalar.addi c0_i32_412 v579
  v580.toNat
def k0_dev10 (d0 : Dev nD) : Nat :=
  let c0_i32_422 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_421 : BitVec 32 := 1#32
  let v589 : BitVec 32 := Scalar.muli v5 c1_i32_421
  let v590 : BitVec 32 := Scalar.addi c0_i32_422 v589
  v590.toNat
def k0_off15 (d0 : Dev nD) (c0_i32_447 : BitVec 32) : Fin 2 → Nat :=
  let c0_453 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_446 : BitVec 32 := 4#32
  let v613 : BitVec 32 := Scalar.addi v2 c4_i32_446
  let v614 : BitVec 32 := Scalar.subi v613 c0_i32_447
  let c4_i32_448 : BitVec 32 := 4#32
  let v615 : BitVec 32 := Scalar.remsi v614 c4_i32_448
  let c256_i32_452 : BitVec 32 := 256#32
  let v619 : BitVec 32 := Scalar.muli v615 c256_i32_452
  let v620 : Index := Scalar.indexCast v619
  ![0, v620.toNat]
def k0_off16 (d0 : Dev nD) (c0_i32_473 : BitVec 32) : Fin 2 → Nat :=
  let c512_479 : Index := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v636 : BitVec 32 := Scalar.addi v2 c0_i32_473
  let c4_i32_474 : BitVec 32 := 4#32
  let v637 : BitVec 32 := Scalar.remsi v636 c4_i32_474
  let c256_i32_478 : BitVec 32 := 256#32
  let v641 : BitVec 32 := Scalar.muli v637 c256_i32_478
  let v642 : Index := Scalar.indexCast v641
  ![512, v642.toNat]
def k0_dev11 (d0 : Dev nD) : Nat :=
  let c0_i32_485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_484 : BitVec 32 := 1#32
  let v644 : BitVec 32 := Scalar.muli v7 c1_i32_484
  let v645 : BitVec 32 := Scalar.addi c0_i32_485 v644
  v645.toNat
def k0_dev12 (d0 : Dev nD) : Nat :=
  let c0_i32_495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_494 : BitVec 32 := 1#32
  let v654 : BitVec 32 := Scalar.muli v5 c1_i32_494
  let v655 : BitVec 32 := Scalar.addi c0_i32_495 v654
  v655.toNat
def k0_dev13 (d0 : Dev nD) : Nat :=
  let c0_i32_558 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_557 : BitVec 32 := 1#32
  let v709 : BitVec 32 := Scalar.muli v7 c1_i32_557
  let v710 : BitVec 32 := Scalar.addi c0_i32_558 v709
  v710.toNat
def k0_dev14 (d0 : Dev nD) : Nat :=
  let c0_i32_568 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_567 : BitVec 32 := 1#32
  let v719 : BitVec 32 := Scalar.muli v5 c1_i32_567
  let v720 : BitVec 32 := Scalar.addi c0_i32_568 v719
  v720.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S512x16 : Shape := ⟨2, ![512, 16]⟩
abbrev S1024x2 : Shape := ⟨2, ![1024, 2]⟩
abbrev S16x512x1024 : Shape := ⟨3, ![16, 512, 1024]⟩
abbrev S1024x16 : Shape := ⟨2, ![1024, 16]⟩
abbrev S_ : Shape := ⟨0, ![]⟩
abbrev S1024 : Shape := ⟨1, ![1024]⟩
abbrev S1024x1 : Shape := ⟨2, ![1024, 1]⟩
abbrev S2 : Shape := ⟨1, ![2]⟩
abbrev S1x2 : Shape := ⟨2, ![1, 2]⟩
abbrev S1 : Shape := ⟨1, ![1]⟩
abbrev S1x1 : Shape := ⟨2, ![1, 1]⟩
abbrev S1024x512x1024 : Shape := ⟨3, ![1024, 512, 1024]⟩
abbrev S1024x1024 : Shape := ⟨2, ![1024, 1024]⟩

abbrev nBuf : Space → Nat
  | .hbm => 102
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x16, .bf16⟩
  | .hbm, ⟨2, _⟩ => ⟨S1024x2, .i32⟩
  | .hbm, ⟨3, _⟩ => ⟨S16x512x1024, .bf16⟩
  | .hbm, ⟨4, _⟩ => ⟨S1024x512, .f32⟩
  | .hbm, ⟨5, _⟩ => ⟨S512x16, .f32⟩
  | .hbm, ⟨6, _⟩ => ⟨S1024x16, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x16, .f32⟩
  | .hbm, ⟨11, _⟩ => ⟨S1024x16, .f32⟩
  | .hbm, ⟨12, _⟩ => ⟨S1024x16, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x16, .f32⟩
  | .hbm, ⟨17, _⟩ => ⟨S1024x16, .f32⟩
  | .hbm, ⟨18, _⟩ => ⟨S16x512x1024, .f32⟩
  | .hbm, ⟨19, _⟩ => ⟨S1024, .i32⟩
  | .hbm, ⟨20, _⟩ => ⟨S1024x1, .i32⟩
  | .hbm, ⟨21, _⟩ => ⟨S1024, .i32⟩
  | .hbm, ⟨22, _⟩ => ⟨S1024x1, .i32⟩
  | .hbm, ⟨23, _⟩ => ⟨S1024, .i32⟩
  | .hbm, ⟨24, _⟩ => ⟨S1024x1, .i32⟩
  | .hbm, ⟨25, _⟩ => ⟨S1024x1, .i32⟩
  | .hbm, ⟨26, _⟩ => ⟨S1024x2, .i32⟩
  | .hbm, ⟨27, _⟩ => ⟨S2, .i32⟩
  | .hbm, ⟨28, _⟩ => ⟨S_, .i32⟩
  | .hbm, ⟨29, _⟩ => ⟨S1024x2, .i32⟩
  | .hbm, ⟨30, _⟩ => ⟨S1024x2, .i1⟩
  | .hbm, ⟨31, _⟩ => ⟨S1x2, .i32⟩
  | .hbm, ⟨32, _⟩ => ⟨S1024x2, .i32⟩
  | .hbm, ⟨33, _⟩ => ⟨S1024x2, .i1⟩
  | .hbm, ⟨34, _⟩ => ⟨S1024x2, .i1⟩
  | .hbm, ⟨35, _⟩ => ⟨S_, .i1⟩
  | .hbm, ⟨36, _⟩ => ⟨S1024, .i1⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024x1, .f32⟩
  | .hbm, ⟨42, _⟩ => ⟨S1024x1, .i32⟩
  | .hbm, ⟨43, _⟩ => ⟨S1024x1, .i32⟩
  | .hbm, ⟨44, _⟩ => ⟨S1024x2, .i32⟩
  | .hbm, ⟨45, _⟩ => ⟨S2, .i32⟩
  | .hbm, ⟨46, _⟩ => ⟨S_, .i32⟩
  | .hbm, ⟨47, _⟩ => ⟨S1024x2, .i32⟩
  | .hbm, ⟨48, _⟩ => ⟨S1024x2, .i1⟩
  | .hbm, ⟨49, _⟩ => ⟨S1x2, .i32⟩
  | .hbm, ⟨50, _⟩ => ⟨S1024x2, .i32⟩
  | .hbm, ⟨51, _⟩ => ⟨S1024x2, .i1⟩
  | .hbm, ⟨52, _⟩ => ⟨S1024x2, .i1⟩
  | .hbm, ⟨53, _⟩ => ⟨S_, .i1⟩
  | .hbm, ⟨54, _⟩ => ⟨S1024, .i1⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024x1, .f32⟩
  | .hbm, ⟨60, _⟩ => ⟨S1024x1, .f32⟩
  | .hbm, ⟨61, _⟩ => ⟨S1024x1, .i32⟩
  | .hbm, ⟨62, _⟩ => ⟨S1, .i32⟩
  | .hbm, ⟨63, _⟩ => ⟨S_, .i32⟩
  | .hbm, ⟨64, _⟩ => ⟨S1024x1, .i32⟩
  | .hbm, ⟨65, _⟩ => ⟨S1024x1, .i1⟩
  | .hbm, ⟨66, _⟩ => ⟨S1x1, .i32⟩
  | .hbm, ⟨67, _⟩ => ⟨S1024x1, .i32⟩
  | .hbm, ⟨68, _⟩ => ⟨S1024x1, .i1⟩
  | .hbm, ⟨69, _⟩ => ⟨S1024x1, .i1⟩
  | .hbm, ⟨70, _⟩ => ⟨S_, .i1⟩
  | .hbm, ⟨71, _⟩ => ⟨S1024, .i1⟩
  | .hbm, ⟨72, _⟩ => ⟨S1024x512x1024, .f32⟩
  | .hbm, ⟨73, _⟩ => ⟨S1024x512x1024, .i1⟩
  | .hbm, ⟨74, _⟩ => ⟨S_, .f32⟩
  | .hbm, ⟨75, _⟩ => ⟨S1024x512x1024, .f32⟩
  | .hbm, ⟨76, _⟩ => ⟨S1024x512x1024, .f32⟩
  | .hbm, ⟨77, _⟩ => ⟨S1024x1024, .f32⟩
  | .hbm, ⟨78, _⟩ => ⟨S1024x1, .i32⟩
  | .hbm, ⟨79, _⟩ => ⟨S1, .i32⟩
  | .hbm, ⟨80, _⟩ => ⟨S_, .i32⟩
  | .hbm, ⟨81, _⟩ => ⟨S1024x1, .i32⟩
  | .hbm, ⟨82, _⟩ => ⟨S1024x1, .i1⟩
  | .hbm, ⟨83, _⟩ => ⟨S1x1, .i32⟩
  | .hbm, ⟨84, _⟩ => ⟨S1024x1, .i32⟩
  | .hbm, ⟨85, _⟩ => ⟨S1024x1, .i1⟩
  | .hbm, ⟨86, _⟩ => ⟨S1024x1, .i1⟩
  | .hbm, ⟨87, _⟩ => ⟨S_, .i1⟩
  | .hbm, ⟨88, _⟩ => ⟨S1024, .i1⟩
  | .hbm, ⟨89, _⟩ => ⟨S1024x512x1024, .f32⟩
  | .hbm, ⟨90, _⟩ => ⟨S1024x512x1024, .i1⟩
  | .hbm, ⟨91, _⟩ => ⟨S_, .f32⟩
  | .hbm, ⟨92, _⟩ => ⟨S1024x512x1024, .f32⟩
  | .hbm, ⟨93, _⟩ => ⟨S1024x512x1024, .f32⟩
  | .hbm, ⟨94, _⟩ => ⟨S1024x1024, .f32⟩
  | .hbm, ⟨95, _⟩ => ⟨S1024x1, .f32⟩
  | .hbm, ⟨96, _⟩ => ⟨S1024x1024, .f32⟩
  | .hbm, ⟨97, _⟩ => ⟨S1024x1024, .f32⟩
  | .hbm, ⟨98, _⟩ => ⟨S1024x1, .f32⟩
  | .hbm, ⟨99, _⟩ => ⟨S1024x1024, .f32⟩
  | .hbm, ⟨100, _⟩ => ⟨S1024x1024, .f32⟩
  | .hbm, ⟨101, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_8 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_12 : Ref sig .tc := ⟨.hbm, 79, rfl⟩
abbrev main_c_13 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]
-- ==== Proof.Ideal.Common.lean ====
/-
# The exchange of the sharded mixture of experts: what it is, before anything is run

Four devices in a ring; device `c` holds four of the sixteen experts and every token. The output has two row halves
and four column chunks. The kernel reduces the devices' partial outputs by two rings at once — ring `a` (upper row
half) sending to the next device, ring `b` (lower half) sending to the device before — in three reduce-scatter
steps, then passes the finished chunks round in three all-gather steps.

The twelve transfers of a device are numbered in program order by `x : Fin 12`, even numbers ring `a`, odd ones ring
`b`; 0–5 are the reduce-scatter, 6–11 the all-gather. For each semaphore: who pays, how much, what is handed over.

* The barrier semaphore: each device pays one unit to both neighbours and waits for two. The unit paid to the next
  device hands over the payer's landing slots of ring `b` (the next device is the one that writes them); the unit
  paid to the device before hands over the landing slots of ring `a`.
* Send semaphore `x` of `c`: the transfer's own engine pays the slot's credit; handed back is the source slot, still
  holding what was sent (`Y x c`).
* Receive semaphore `x` of `c`: paid by the transfer of the device `sndr x c`; handed over is the landing slot holding
  what that device sent (`Y x (sndr x c)`).

Every slot and every semaphore is used once, so every cell has one round only.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's part and the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The ring -/

set_option backward.proofsInPublic true in
/-- The device `k` places on. -/
def rot (k : ℕ) (c : Dev nD) : Dev nD := ⟨(c.val + k) % 4, Nat.mod_lt _ (by decide)⟩
abbrev nxt (c : Dev nD) : Dev nD := rot 1 c
abbrev prv (c : Dev nD) : Dev nD := rot 3 c

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- Whom device `c` sends transfer `x` to, -/
def peer (x : Fin 12) (c : Dev nD) : Dev nD := if x.val % 2 = 0 then nxt c else prv c
/-- and from whom it receives it. -/
def sndr (x : Fin 12) (c : Dev nD) : Dev nD := if x.val % 2 = 0 then prv c else nxt c

theorem peer_sndr (x : Fin 12) (c : Dev nD) : peer x (sndr x c) = c := by revert x c; decide
theorem sndr_peer (x : Fin 12) (c : Dev nD) : sndr x (peer x c) = c := by revert x c; decide

/-- The pairing of senders with receivers at transfer `x`. -/
def pairing (x : Fin 12) : Dev nD ≃ Dev nD := ⟨peer x, sndr x, sndr_peer x, peer_sndr x⟩

/-! ## Slots and semaphores -/

abbrev MR (s : Shape) := Memref sig .tc .vmem s .bf16

theorem inb3 (s : Fin 3) : ∀ a, (![s.val, 0, 0] : Fin 3 → ℕ) a + S1x512x256.size a ≤ S3x512x256.size a := by revert s; decide
theorem inb4 (s : Fin 4) : ∀ a, (![s.val, 0, 0] : Fin 3 → ℕ) a + S1x512x256.size a ≤ S4x512x256.size a := by revert s; decide

abbrev slot3 (b : MR S3x512x256) (s : Fin 3) : MR S1x512x256 :=
  b.slice (Rect.unit (s := S3x512x256) ![s.val, 0, 0] S1x512x256.size (inb3 s)) (fun _ => rfl)
abbrev slot4 (b : MR S4x512x256) (s : Fin 4) : MR S1x512x256 :=
  b.slice (Rect.unit (s := S4x512x256) ![s.val, 0, 0] S1x512x256.size (inb4 s)) (fun _ => rfl)

abbrev aSend : MR S3x512x256 := Memref.whole cc0_scratch0
abbrev aRecv : MR S3x512x256 := Memref.whole cc0_scratch1
abbrev aGath : MR S4x512x256 := Memref.whole cc0_scratch2
abbrev bSend : MR S3x512x256 := Memref.whole cc0_scratch3
abbrev bRecv : MR S3x512x256 := Memref.whole cc0_scratch4
abbrev bGath : MR S4x512x256 := Memref.whole cc0_scratch5

/-- The slot transfer `x` reads, -/
abbrev srcS : Fin 12 → MR S1x512x256 := fun
  | 0 => slot3 aSend 0 | 1 => slot3 bSend 0 | 2 => slot3 aSend 1 | 3 => slot3 bSend 1 | 4 => slot3 aSend 2 | 5 => slot3 bSend 2
  | 6 => slot4 aGath 0 | 7 => slot4 bGath 0 | 8 => slot4 aGath 1 | 9 => slot4 bGath 1 | 10 => slot4 aGath 2 | 11 => slot4 bGath 2
/-- and the one it writes, on the peer. -/
abbrev dstS : Fin 12 → MR S1x512x256 := fun
  | 0 => slot3 aRecv 0 | 1 => slot3 bRecv 0 | 2 => slot3 aRecv 1 | 3 => slot3 bRecv 1 | 4 => slot3 aRecv 2 | 5 => slot3 bRecv 2
  | 6 => slot4 aGath 1 | 7 => slot4 bGath 1 | 8 => slot4 aGath 2 | 9 => slot4 bGath 2 | 10 => slot4 aGath 3 | 11 => slot4 bGath 3

/-- A slot seen as the matrix a transfer moves. -/
abbrev flat (s : MR S1x512x256) : MR S512x256 := s.squeeze S512x256 squeezes_S1x512x256_S512x256

/-- The DMA semaphores of transfer `x`: the sender's own, -/
abbrev sendQ : Fin 12 → DmaSem sig := fun
  | 0 => 5 | 1 => 17 | 2 => 6 | 3 => 18 | 4 => 7 | 5 => 19 | 6 => 11 | 7 => 23 | 8 => 12 | 9 => 24 | 10 => 13 | 11 => 25
/-- and the receiver's. -/
abbrev recvQ : Fin 12 → DmaSem sig := fun
  | 0 => 8 | 1 => 20 | 2 => 9 | 3 => 21 | 4 => 10 | 5 => 22 | 6 => 14 | 7 => 26 | 8 => 15 | 9 => 27 | 10 => 16 | 11 => 28

/-- The barrier semaphore of the collective. -/
abbrev barS : Sem sig := (SemArray.scalar (sig.barrier 0 rfl) : Sems sig S_).sem

abbrev barCell (c : Dev nD) : GSem nD τ sig := ((c : Thread nD τ), .reg barS)
abbrev sendCell (x : Fin 12) (c : Dev nD) : GSem nD τ sig := ((c : Thread nD τ), .dma (sendQ x))
abbrev recvCell (x : Fin 12) (c : Dev nD) : GSem nD τ sig := ((c : Thread nD τ), .dma (recvQ x))

/-- A device's own semaphores (send, receive), indexed; -/
abbrev osem : Fin 12 × Bool → SemLoc sig := fun | (x, false) => .dma (sendQ x) | (x, true) => .dma (recvQ x)
/-- and with the barrier. -/
abbrev csem : Option (Fin 12 × Bool) → SemLoc sig := fun | none => .reg barS | some k => osem k
abbrev KI : Type := Dev nD × Option (Fin 12 × Bool)
abbrev kcell (ck : KI) : GSem nD τ sig := ((ck.1 : Thread nD τ), csem ck.2)

/-- Which transfer a DMA semaphore serves, and on which side. -/
def dec (q : DmaSem sig) : Option (Fin 12 × Bool) :=
  (List.finRange 12).findSome? fun x => if sendQ x = q then some (x, false) else if recvQ x = q then some (x, true) else none

theorem dec_send (x : Fin 12) : dec (sendQ x) = some (x, false) := by revert x; decide
theorem dec_recv (x : Fin 12) : dec (recvQ x) = some (x, true) := by revert x; decide

/-- The credit of one slot. -/
abbrev N : ℕ := (flat (slot3 aSend 0)).view.dmaCredit
theorem N_pos : 0 < N := View.dmaCredit_pos _ (by decide)

theorem credit_src (x : Fin 12) : (flat (srcS x)).view.dmaCredit = N := by fin_cases x <;> rfl
theorem credit_dst (x : Fin 12) : (flat (dstS x)).view.dmaCredit = N := by fin_cases x <;> rfl

/-! ## What a device holds, and what each transfer carries -/

/-- The four staged inputs of one device: tokens, router, routes, its experts. -/
structure DevIn (F : FTy → Type) where
  fx : (cc0_stg0_0 : Ref sig .tc).ty.Contents (Elt F)
  fr : (cc0_stg1_0 : Ref sig .tc).ty.Contents (Elt F)
  fi : (cc0_stg2_0 : Ref sig .tc).ty.Contents (Elt F)
  fw : (cc0_stg3_0 : Ref sig .tc).ty.Contents (Elt F)

section Contents

variable (D : DevIn F) (c : Dev nD)

/-- The tokens as loaded, -/
def ldX : Vec F S1024x512 .bf16 :=
  (Memref.whole cc0_stg0_0).view.readAt (Elt F) (Rect.unit (s := S1024x512) ![0, 0] S1024x512.size inb_S1024x512_S1024x512_0_0).toLoadRect D.fx
/-- the router, -/
def ldR : Vec F S512x16 .bf16 :=
  (Memref.whole cc0_stg1_0).view.readAt (Elt F) (Rect.unit (s := S512x16) ![0, 0] S512x16.size inb_S512x16_S512x16_0_0).toLoadRect D.fr
/-- the two columns of routes. -/
def ldI0 : Vec F S1024x1 .i32 :=
  (Memref.whole cc0_stg2_0).view.readAt (Elt F) (Rect.unit (s := S1024x2) ![0, 0] S1024x1.size inb_S1024x2_S1024x1_0_0).toLoadRect D.fi
def ldI1 : Vec F S1024x1 .i32 :=
  (Memref.whole cc0_stg2_0).view.readAt (Elt F) (Rect.unit (s := S1024x2) ![0, 1] S1024x1.size inb_S1024x2_S1024x1_0_1).toLoadRect D.fi

theorem inbW (e : Fin 4) (q : Dev nD) : ∀ a, (![e.val, 0, 256 * q.val] : Fin 3 → ℕ) a + S1x512x256.size a ≤ S4x512x1024.size a := by
  revert e q; decide
/-- Column chunk `q` of local expert `e`. -/
def ldW (e : Fin 4) (q : Dev nD) : Vec F S1x512x256 .bf16 :=
  (Memref.whole cc0_stg3_0).view.readAt (Elt F) (Rect.unit (s := S4x512x1024) ![e.val, 0, 256 * q.val] S1x512x256.size (inbW e q)).toLoadRect D.fw

theorem ldW_of {off : Fin 3 → ℕ} (e : Fin 4) (q : Dev nD) (h : off = ![e.val, 0, 256 * q.val])
    (p : ∀ a, off a + S1x512x256.size a ≤ S4x512x1024.size a) :
    (Memref.whole cc0_stg3_0).view.readAt (Elt F) (Rect.unit (s := S4x512x1024) off S1x512x256.size p).toLoadRect D.fw = ldW D e q := by
  subst h; rfl

/-- The device's number as the kernel computes it. -/
abbrev myW : BitVec 32 := Scalar.remsi (Scalar.divsi (Dev.word c) 1#32) 4#32

abbrev v26 : FVec F S1024x16 .f32 := k0_pay3 (ldX D) (ldR D)
abbrev v28 : IVec S1024x1 32 := k0_pay4 (ldI0 D)

/-- The tokens weighted for local expert 0, 1, 2, 3. -/
def xw0 : FVec F S1024x512 .bf16 := k0_pay11 (myW c) (k0_pay2 (ldX D)) (v26 D) (v28 D) (ldI1 D)
def xw1 : FVec F S1024x512 .bf16 := k0_pay12 (myW c) (k0_pay2 (ldX D)) (v26 D) (v28 D) (ldI1 D)
def xw2 : FVec F S1024x512 .bf16 :=
  k0_pay13 (myW c) (k0_pay2 (ldX D)) (v28 D) (k0_pay5 (ldI1 D)) (k0_pay9 (v26 D) (v28 D) (ldI1 D)) (k0_pay10 (v26 D) (v28 D) (ldI1 D)) 4#32
def xw3 : FVec F S1024x512 .bf16 :=
  k0_pay14 (myW c) (k0_pay2 (ldX D)) (v28 D) (k0_pay5 (ldI1 D)) (k0_pay9 (v26 D) (v28 D) (ldI1 D)) (k0_pay10 (v26 D) (v28 D) (ldI1 D))

/-- The device's partial output of chunk `q`: upper row half, -/
def partA (q : Dev nD) : FVec F S512x256 .f32 :=
  k0_pay22 (k0_pay20 (xw0 D c) (xw1 D c) (xw2 D c) (ldW D 0 q) (ldW D 1 q) (ldW D 2 q)) (k0_pay21 (xw3 D c) (ldW D 3 q))
/-- lower row half. -/
def partB (q : Dev nD) : FVec F S512x256 .f32 :=
  k0_pay23 (xw0 D c) (xw1 D c) (xw2 D c) (xw3 D c) (ldW D 0 q) (ldW D 1 q) (ldW D 2 q) (ldW D 3 q)

end Contents

/-- A matrix as a slot holds it, and a slot's content as a matrix again. -/
def pack (v : FVec F S512x256 .f32) : Vec F S1x512x256 .bf16 := k0_pay25 v
def unpack (Y : Vec F S1x512x256 .bf16) : FVec F S512x256 .f32 := k0_pay1 Y

section Carried

variable (I : Dev nD → DevIn F)

def ya0 (c : Dev nD) : Vec F S1x512x256 .bf16 := pack (partA (I c) c c)
def ya1 (c : Dev nD) : Vec F S1x512x256 .bf16 := pack (addf (unpack (ya0 I (prv c))) (partA (I c) c (rot 3 c)))
def ya2 (c : Dev nD) : Vec F S1x512x256 .bf16 := pack (addf (unpack (ya1 I (prv c))) (partA (I c) c (rot 2 c)))
/-- The finished chunk of ring `a` at device `c` (chunk number `c + 1`). -/
def accA (c : Dev nD) : FVec F S512x256 .f32 := addf (unpack (ya2 I (prv c))) (partA (I c) c (rot 1 c))
def ya3 (c : Dev nD) : Vec F S1x512x256 .bf16 := pack (accA I c)

def yb0 (c : Dev nD) : Vec F S1x512x256 .bf16 := pack (partB (I c) c c)
def yb1 (c : Dev nD) : Vec F S1x512x256 .bf16 := pack (addf (unpack (yb0 I (nxt c))) (partB (I c) c (rot 1 c)))
def yb2 (c : Dev nD) : Vec F S1x512x256 .bf16 := pack (addf (unpack (yb1 I (nxt c))) (partB (I c) c (rot 2 c)))
/-- The finished chunk of ring `b` at device `c` (chunk number `c - 1`). -/
def accB (c : Dev nD) : FVec F S512x256 .f32 := addf (unpack (yb2 I (nxt c))) (partB (I c) c (rot 3 c))
def yb3 (c : Dev nD) : Vec F S1x512x256 .bf16 := pack (accB I c)

/-- What transfer `x` of device `c` carries. -/
def Y : Fin 12 → Dev nD → Vec F S1x512x256 .bf16 := fun
  | 0 => ya0 I | 1 => yb0 I | 2 => ya1 I | 3 => yb1 I | 4 => ya2 I | 5 => yb2 I
  | 6 => ya3 I | 7 => yb3 I
  | 8 => fun c => ya3 I (prv c) | 9 => fun c => yb3 I (nxt c)
  | 10 => fun c => ya3 I (prv (prv c)) | 11 => fun c => yb3 I (nxt (nxt c))

end Carried

/-! ## Slots held -/

/-- Device `c` holds slot `s` with content `w`. -/
abbrev slot (c : Dev nD) (s : MR S1x512x256) (w : Vec F S1x512x256 .bf16) : sProp 𝕄 :=
  owns (Ix := Unit) (Name := ℕ) (U := UU) (Lvl := ℕ) (c : Thread nD τ) s fullShare w

/-- The landing slot of transfer `x` on device `c`, at any content. -/
def free (x : Fin 12) (c : Dev nD) : sProp 𝕄 := iprop(∃ w, slot (F := F) c (dstS x) w)

omit [FloatOps F] in
instance free_storable (x : Fin 12) (c : Dev nD) : BI.Storable (upEmb : UEmb _ 𝕄) (free (F := F) x c) := by
  unfold free; infer_instance

def landA (c : Dev nD) : sProp 𝕄 :=
  iprop(free (F := F) 0 c ∗ free (F := F) 2 c ∗ free (F := F) 4 c ∗ free (F := F) 6 c ∗ free (F := F) 8 c ∗ free (F := F) 10 c)
def landB (c : Dev nD) : sProp 𝕄 :=
  iprop(free (F := F) 1 c ∗ free (F := F) 3 c ∗ free (F := F) 5 c ∗ free (F := F) 7 c ∗ free (F := F) 9 c ∗ free (F := F) 11 c)

omit [FloatOps F] in
instance landA_storable (c : Dev nD) : BI.Storable (upEmb : UEmb _ 𝕄) (landA (F := F) c) := by unfold landA; infer_instance
omit [FloatOps F] in
instance landB_storable (c : Dev nD) : BI.Storable (upEmb : UEmb _ 𝕄) (landB (F := F) c) := by unfold landB; infer_instance

/-! ## The schedule -/

/-- What the two units at `c`'s barrier hand it: from the device before (`false`) that device's landing slots of ring
    `b`, from the next one (`true`) its landing slots of ring `a`. -/
def barPay (c : Dev nD) (d : Bool) : sProp 𝕄 := if d then landA (F := F) (nxt c) else landB (F := F) (prv c)

def dmaPay (I : Dev nD → DevIn F) (c : Dev nD) : Option (Fin 12 × Bool) → sProp 𝕄
  | some (x, false) => slot c (srcS x) (Y I x c)
  | some (x, true) => slot c (dstS x) (Y I x (sndr x c))
  | none => iprop(emp)

/-- Round 0 of a device's cells: the barrier's two duties of one unit, a DMA semaphore's one duty of a slot's credit. -/
def rd (I : Dev nD → DevIn F) : Rounds.Schedule (GSem nD τ sig) Bool 𝕄 where
  duties g r := if r = 0 ∧ g.1.2 = .tc then
      (match g.2 with | .reg _ => Finset.univ | .dma q => if (dec q).isSome then {false} else ∅) else ∅
  unitless _ := False
  amount g _ _ := match g.2 with | .reg _ => 1 | .dma _ => N
  payload g _ d := match g.2 with | .reg _ => barPay g.1.1 d | .dma q => dmaPay I g.1.1 (dec q)
  amount_pos g _ _ _ := by
    rcases g.2 with _ | _
    · exact Nat.one_pos
    · exact N_pos

instance rd_payload_storable (I : Dev nD → DevIn F) (g : GSem nD τ sig) (r : ℕ) (d : Bool) :
    BI.Storable (upEmb : UEmb _ 𝕄) ((rd I).payload g r d) := by
  obtain ⟨t, s | q⟩ := g
  · show BI.Storable upEmb (barPay t.1 d)
    unfold barPay; split <;> infer_instance
  · show BI.Storable upEmb (dmaPay I t.1 (dec q))
    rcases dec q with _ | ⟨x, _ | _⟩ <;> unfold dmaPay <;> infer_instance

section Sched
variable (I : Dev nD → DevIn F) (x : Fin 12) (c : Dev nD)

theorem duties_bar : (rd I).duties (barCell c) 0 = Finset.univ := by dsimp only [rd]; exact if_pos ⟨rfl, rfl⟩
theorem duties_dma (q : DmaSem sig) (h : (dec q).isSome) : (rd I).duties ((c : Thread nD τ), .dma q) 0 = {false} := by
  dsimp only [rd]; rw [if_pos ⟨rfl, rfl⟩]; exact if_pos h
theorem duties_send : (rd I).duties (sendCell x c) 0 = {false} := duties_dma I c _ (by rw [dec_send]; rfl)
theorem duties_recv : (rd I).duties (recvCell x c) 0 = {false} := duties_dma I c _ (by rw [dec_recv]; rfl)
theorem duties_later (g : GSem nD τ sig) : ∀ r, 1 ≤ r → (rd I).duties g r = ∅ :=
  fun r hr => by dsimp only [rd]; exact if_neg fun h => by omega

theorem amount_bar (d : Bool) : (rd I).amount (barCell c) 0 d = 1 := rfl
theorem amount_dma (q : DmaSem sig) (d : Bool) : (rd I).amount ((c : Thread nD τ), .dma q) 0 d = N := rfl

theorem expect_bar : (rd I).expect (barCell c) 0 = 2 := by
  unfold Schedule.expect Schedule.amountOf
  rw [duties_bar, Finset.sum_congr rfl fun d _ => amount_bar I c d, Finset.sum_const, Finset.card_univ, Fintype.card_bool, smul_eq_mul]
theorem expect_dma (q : DmaSem sig) (h : (dec q).isSome) : (rd I).expect ((c : Thread nD τ), .dma q) 0 = N := by
  unfold Schedule.expect Schedule.amountOf; rw [duties_dma I c q h, Finset.sum_singleton, amount_dma]

theorem payload_bar (d : Bool) : (rd I).payload (barCell c) 0 d = barPay c d := rfl
theorem payload_send (d : Bool) : (rd I).payload (sendCell x c) 0 d = slot c (srcS x) (Y I x c) := by
  show dmaPay I c (dec (sendQ x)) = _
  rw [dec_send]; rfl
theorem payload_recv (d : Bool) : (rd I).payload (recvCell x c) 0 d = slot c (dstS x) (Y I x (sndr x c)) := by
  show dmaPay I c (dec (recvQ x)) = _
  rw [dec_recv]; rfl

theorem rest_bar : bigSep ((rd I).duties (barCell c) 0 \ ∅) (fun d => (rd I).payload (barCell c) 0 d)
    = iprop(landB (F := F) (prv c) ∗ landA (F := F) (nxt c)) := by
  rw [Finset.sdiff_empty, duties_bar, bigSep_univ_eq_bigSepL [false, true] (by decide) (by decide), bigSepL_cons_cons, bigSepL_singleton]
  rfl
theorem rest_send : bigSep ((rd I).duties (sendCell x c) 0 \ ∅) (fun d => (rd I).payload (sendCell x c) 0 d) = slot c (srcS x) (Y I x c) := by
  rw [Finset.sdiff_empty, duties_send, bigSep_singleton, payload_send]
theorem rest_recv : bigSep ((rd I).duties (recvCell x c) 0 \ ∅) (fun d => (rd I).payload (recvCell x c) 0 d)
    = slot c (dstS x) (Y I x (sndr x c)) := by
  rw [Finset.sdiff_empty, duties_recv, bigSep_singleton, payload_recv]

end Sched

/-! ## What a device owes; the levels -/

/-- What device `c` still owes its peers' receive semaphores when transfers `n`, `n + 1`, … are to come. -/
def due (c : Dev nD) (n : ℕ) : CellTallies nD τ sig Unit :=
  ∑ x ∈ Finset.univ.filter (fun x : Fin 12 => n ≤ x.val), tallyAt (recvCell x (peer x c)) () N

theorem due_peel (c : Dev nD) (x : Fin 12) : due c x.val = due c (x.val + 1) + tallyAt (recvCell x (peer x c)) () N := by
  unfold due
  rw [show Finset.univ.filter (fun y : Fin 12 => x.val ≤ y.val) = insert x (Finset.univ.filter fun y : Fin 12 => x.val + 1 ≤ y.val) from by
    ext y; simp only [Finset.mem_filter, Finset.mem_univ, true_and, Finset.mem_insert, Fin.ext_iff]; omega]
  rw [Finset.sum_insert (by simp), add_comm]

theorem due_end (c : Dev nD) : due c 12 = 0 := by
  unfold due
  rw [Finset.filter_false_of_mem fun y _ => by have := y.isLt; omega, Finset.sum_empty]

def O₁ (c : Dev nD) : CellTallies nD τ sig Unit := due c 0 + tallyAt (barCell (nxt c)) () 1
def O₀ (c : Dev nD) : CellTallies nD τ sig Unit := O₁ c + tallyAt (barCell (prv c)) () 1

def L (g : GSem nD τ sig) : Finset Unit := if g.1.2 = .tc then {()} else ∅

/-- Levels: staging and send semaphores 0, barriers 1, receive semaphores above, in program order. -/
def dlev (q : DmaSem sig) : ℕ := match dec q with | some (x, true) => 2 + x.val | _ => 0
def lv (g : GSem nD τ sig) (_ : Unit) : ℕ := match g.2 with | .reg _ => 1 | .dma q => dlev q

theorem L_of_ne (g : GSem nD τ sig) (h : g.1.2 ≠ .tc) : L g = ∅ := if_neg h
theorem mem_L (c : Dev nD) (sm : SemLoc sig) : () ∈ L ((c : Thread nD τ), sm) := by
  rw [show L ((c : Thread nD τ), sm) = {()} from if_pos rfl]; exact Finset.mem_singleton_self _

theorem lv_recv (x : Fin 12) (c : Dev nD) : lv (recvCell x c) () = 2 + x.val := by
  show dlev (recvQ x) = _
  unfold dlev; rw [dec_recv]
theorem lv_bar (c : Dev nD) : lv (barCell c) () = 1 := rfl

theorem due_pos {c : Dev nD} {n : ℕ} {g : GSem nD τ sig} {u : Unit} (h : 0 < due c n g u) :
    ∃ x : Fin 12, n ≤ x.val ∧ g = recvCell x (peer x c) := by
  unfold due at h
  obtain ⟨x, hx, hp⟩ := Pipeline.sum_pos_exists h
  exact ⟨x, (Finset.mem_filter.mp hx).2, (Pipeline.tallyAt_pos hp).1⟩

/-- A wait below level `2 + n` while transfers from `n` on are owed. -/
theorem mayWait_due (c : Dev nD) (sm : SemLoc sig) (n : ℕ) (h : lv ((c : Thread nD τ), sm) () < 2 + n) :
    (levAts L lv : sProp 𝕄) ⊢ MayWait (c : Thread nD τ) sm () (due c n) :=
  Pipeline.mayWait_of_levAts (mem_L c sm) fun g u hg => by
    cases u
    obtain ⟨x, hx, rfl⟩ := due_pos hg
    exact ⟨mem_L _ _, by rw [lv_recv]; omega⟩

theorem O₀_pos {c : Dev nD} {g : GSem nD τ sig} {u : Unit} (h : 0 < O₀ c g u) : ∃ (d : Dev nD) (sm : SemLoc sig), g = ((d : Thread nD τ), sm) ∧ 1 ≤ lv g () := by
  unfold O₀ O₁ at h
  rcases Pipeline.add_pos_cases h with h | h
  · rcases Pipeline.add_pos_cases h with h | h
    · obtain ⟨x, -, rfl⟩ := due_pos h
      exact ⟨_, _, rfl, by rw [lv_recv]; omega⟩
    · rw [(Pipeline.tallyAt_pos h).1]; exact ⟨_, _, rfl, le_refl _⟩
  · rw [(Pipeline.tallyAt_pos h).1]; exact ⟨_, _, rfl, le_refl _⟩

theorem mayWait_stage (c : Dev nD) (q : DmaSem sig) (hq : dlev q = 0) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (mem_L c _) fun g u hg => ?_
    cases u
    obtain ⟨d, sm, rfl, hl⟩ := O₀_pos hg
    exact ⟨mem_L _ _, by show dlev q < _; rw [hq]; exact hl⟩
  · rw [MayWait_zero]; iintro -; iempintro

/-! ## The ghost state of a device -/

/-- Everything shared: every cell's invariant, under the names `K`, and that every cell is at round 0. -/
def records (I : Dev nD → DevIn F) (K : KI → ℕ) : sProp 𝕄 :=
  iprop((bigSep Finset.univ fun ck : KI => cellInv ER (rd I) (K ck) (kcell ck))
    ∗ bigSep Finset.univ fun ck : KI => reached ER (kcell ck) 0)

instance records_persistent (I : Dev nD → DevIn F) (K : KI → ℕ) : BI.Persistent (records I K) := by unfold records; infer_instance

theorem inv_of (I : Dev nD → DevIn F) (K : KI → ℕ) (ck : KI) :
    (bigSep Finset.univ fun ck : KI => (cellInv ER (rd I) (K ck) (kcell ck) : sProp 𝕄)) ⊢ cellInv ER (rd I) (K ck) (kcell ck) :=
  bigSep_elim (Finset.mem_univ ck)
theorem reached_of (ck : KI) : (bigSep Finset.univ fun ck : KI => (reached ER (kcell ck) 0 : sProp 𝕄)) ⊢ reached ER (kcell ck) 0 :=
  bigSep_elim (Finset.mem_univ ck)
theorem inv_at (I : Dev nD → DevIn F) (K : KI → ℕ) (ck : KI) : records I K ⊢ cellInv ER (rd I) (K ck) (kcell ck) := by
  unfold records
  iintro ⟨H, -⟩
  iapply (inv_of I K ck); iexact H
theorem reached_at (I : Dev nD → DevIn F) (K : KI → ℕ) (ck : KI) : records I K ⊢ reached ER (kcell ck) 0 := by
  unfold records
  iintro ⟨-, H⟩
  iapply (reached_of (F := F) ck); iexact H

/-- A device's share of transfer `x` as launched: its positions at the two cells, the duties it pays (its own send
    cell's, its peer's receive cell's), and the credit its receive wait spends; -/
def kit0 (x : Fin 12) (c : Dev nD) : sProp 𝕄 :=
  iprop(atPos ER (sendCell x c) 0 ∅ 0 ∗ atPos ER (recvCell x c) 0 ∅ 0 ∗ dutyTok ER (sendCell x c) 0 false
    ∗ dutyTok ER (recvCell x (peer x c)) 0 false ∗ cred (tallyAt (recvCell x c) () N))
/-- once the transfer is under way; -/
def kit1 (x : Fin 12) (c : Dev nD) : sProp 𝕄 :=
  iprop(atPos ER (sendCell x c) 0 ∅ 0 ∗ atPos ER (recvCell x c) 0 ∅ 0 ∗ cred (tallyAt (sendCell x c) () N) ∗ cred (tallyAt (recvCell x c) () N))
/-- after the send wait; -/
def kit2 (x : Fin 12) (c : Dev nD) : sProp 𝕄 :=
  iprop(atPos ER (recvCell x c) 0 ∅ 0 ∗ cred (tallyAt (recvCell x c) () N) ∗ semVal (sendCell x c) 0)
/-- after the receive wait: both counters at zero. -/
def kit3 (x : Fin 12) (c : Dev nD) : sProp 𝕄 := iprop(semVal (sendCell x c) 0 ∗ semVal (recvCell x c) 0)

/-- What a device owes, whatever it has waited on. -/
def ow (c : Dev nD) (O : CellTallies nD τ sig Unit) : sProp 𝕄 := iprop(∃ W, owes (c : Thread nD τ) O W)

/-- A device's ghost state at launch, apart from what is shared. -/
def linear (c : Dev nD) : sProp 𝕄 :=
  iprop(atPos ER (barCell c) 0 ∅ 0 ∗ dutyTok ER (barCell (nxt c)) 0 false ∗ dutyTok ER (barCell (prv c)) 0 true
    ∗ cred (tallyAt (barCell c) () 2) ∗ bigSep Finset.univ fun x : Fin 12 => kit0 (F := F) x c)

end Cert.KernelIdeal.Moe

end
-- ==== Proof.Ideal.Steps.lean ====
/-
# The steps of the exchange, once each for every transfer

A transfer started, a send wait, a receive wait, a slot loaded, a slot stored to — for transfer `x` of device `c`,
whatever program follows. The program names its memrefs, semaphores and devices by its own terms; each rule takes them
as variables with an equation to this proof's.
-/
module

public import proofs.«01_k».proof.Proof.Ideal.Common

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A slot's content and the matrix in it -/

/-- Writing into one slot the matrix read off another leaves it with the other's content. -/
theorem flat_landed (s t : MR S1x512x256) (fs : s.view.ty.Contents (Elt F)) (ft : t.view.ty.Contents (Elt F)) :
    t.view.read (Elt F) ((flat t).view.write (Elt F) ft ((flat s).view.read (Elt F) fs) Finset.univ) = s.view.read (Elt F) fs := by
  show t.view.read (Elt F) ((t.view.reshape S512x256 squeezes_S1x512x256_S512x256.numel_eq).write (Elt F) ft _ Finset.univ) = _
  rw [View.write_reshape_univ, View.read_write_univ]
  funext i
  show (s.view.reshape S512x256 squeezes_S1x512x256_S512x256.numel_eq).read (Elt F) fs _ = _
  rw [View.read_apply, View.read_apply]
  congr 2
  simp

section Steps

variable (I : Dev nD → DevIn F) (K : KI → ℕ) (x : Fin 12) (c : Dev nD)
variable {α : Type} {k : PUnit → Prog (TpuEff nD τ sig (Elt F) Λ₀ .tc) α}

/-- Transfer `x` started: source and landing slot given up, what is owed to the peer paid. -/
theorem wp_xfer {Q : α → sProp 𝕄} {n : Dev nD} (hn : n = peer x c) {src dst : MR S512x256} (hs : src = flat (srcS x)) (hd : dst = flat (dstS x))
    {qs qr : DmaSem sig} (hqs : qs = sendQ x) (hqr : qr = recvQ x)
    {hsc : (dst : Memref sig (Dev.tc n : Thread nD τ).2.kind .vmem S512x256 .bf16).view.ref.isScScratch = false}
    {hsrc : src.view.WordExact} {hdst : dst.view.WordExact}
    {hsem : DmaTarget.Typed .vmem (.dma qr) (.remote (Dev.tc n : Thread nD τ) dst (.dma qs) hsc)}
    {j j' : ℕ} (hj : j = x.val) (hj' : j' = x.val + 1) :
    iprop(records I K ∗ kit0 x c ∗ slot c (srcS x) (Y I x c) ∗ free x (peer x c) ∗ ow c (due c j))
      ⊢ iprop(((kit1 x c ∗ ow c (due c j')) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn hs hd hqs hqr hj hj'
  unfold kit0 free ow slot owns
  iintro ⟨#HR, ⟨HaS, HaV, HtS, HtV, HcV⟩, ⟨%fs, %hfs, Hs⟩, ⟨%w, %fd, %hfd, Hd⟩, ⟨%W, HO⟩⟩ Hk
  have e1 : ((srcS x).view.loc (c : Thread nD τ) ↦[(srcS x).view.set]{fullShare} fs : sProp 𝕄)
      = ((flat (srcS x)).view.loc (c : Thread nD τ) ↦[(flat (srcS x)).view.set]{fullShare} fs) := by
    rw [View.set_reshape]
  have e2 : ∀ g, ((dstS x).view.loc (peer x c : Thread nD τ) ↦[(dstS x).view.set]{fullShare} g : sProp 𝕄)
      = ((flat (dstS x)).view.loc (peer x c : Thread nD τ) ↦[(flat (dstS x)).view.set]{fullShare} g) := fun g => by
    rw [View.set_reshape]
  ihave Hs := (Entails.of_eq e1) $$ Hs
  ihave Hd := (Entails.of_eq (e2 fd)) $$ Hd
  iapply (Rounds.wp_send_pointsTo 𝒱₀ ER (rd I) (c : Thread nD τ) none (c' := (peer x c : Thread nD τ)) (src := flat (srcS x)) (dst := flat (dstS x))
      (sS := .dma (sendQ x)) (sem := .dma (recvQ x))
      (κ₁ := K (c, some (x, false))) (κ₂ := K (peer x c, some (x, true)))
      (r₁ := 0) (r₂ := 0) (d₁ := false) (d₂ := false) (fs := fs) (fd := fd)
      (by rw [duties_send]; exact Finset.mem_singleton_self _) (by rw [duties_recv]; exact Finset.mem_singleton_self _)
      () () N (credit_dst x) (amount_dma I c (sendQ x) false) (amount_dma I (peer x c) (recvQ x) false)
      (due c (x.val + 1)) (due_peel c x) (W := W)
      (by rw [payload_send, ← e1]; unfold slot owns; iintro H; iexists fs; isplitr
          · ipureintro; exact hfs
          · iexact H)
      (by rw [payload_recv, ← e2, sndr_peer]; unfold slot owns; iintro H; iexists ((flat (dstS x)).view.write (Elt F) fd ((flat (srcS x)).view.read (Elt F) fs) Finset.univ); isplitr
          · ipureintro; exact (flat_landed (srcS x) (dstS x) fs fd).trans hfs
          · iexact H))
    $$ [HtS HtV Hs Hd HO]
  · isplitr; · iapply (inv_at I K (c, some (x, false))); iexact HR
    isplitr; · iapply (inv_at I K (peer x c, some (x, true))); iexact HR
    isplitl [Hs]; · iexact Hs
    isplitl [Hd]; · iexact Hd
    isplitl [HO]; · iexact HO
    isplitl [HtS]; · iexact HtS
    isplitr; · iapply (reached_at I K (c, some (x, false))); iexact HR
    isplitl [HtV]; · iexact HtV
    iapply (reached_at I K (peer x c, some (x, true))); iexact HR
  iintro ⟨HcS, HO⟩
  iapply Hk
  unfold kit1
  isplitr [HO]
  · isplitl [HaS]; · iexact HaS
    isplitl [HaV]; · iexact HaV
    isplitl [HcS]; · iexact HcS
    iexact HcV
  · iexists W; iexact HO

/-- The send wait of transfer `x`: the source slot back, the send counter at zero. -/
theorem wp_waitS {Q : α → sProp 𝕄} {src dst : MR S512x256} (hd : dst.view.dmaCredit = N) {qs : DmaSem sig} (hqs : qs = sendQ x)
    {hsrc : src.view.WordExact} {hdst : dst.view.WordExact} (n : ℕ) :
    iprop(records I K ∗ levAts L lv ∗ kit1 x c ∗ ow c (due c n))
      ⊢ iprop(((kit2 x c ∗ slot c (srcS x) (Y I x c) ∗ ow c (due c n)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qs src dst hsrc hdst) k) Q) := by
  subst hqs
  unfold kit1 ow
  iintro ⟨#HR, #Hlev, ⟨HaS, HaV, HcS, HcV⟩, ⟨%W, HO⟩⟩ Hk
  iapply (Rounds.wp_wait_rest_token 𝒱₀ ER (rd I) (c : Thread nD τ) none (κ := K (c, some (x, false)))
      (wpE_waitDma2_eq 𝒱₀ (c : Thread nD τ) none Set.univ) (Set.mem_univ _) () (O := due c n) (W := W) (R := 0) (m := 0) (T := ∅)
      (by rw [Nat.zero_add, hd, expect_dma I c _ (by rw [dec_send]; rfl)])) $$ [HcS HO HaS]
  · isplitr; · iapply (inv_at I K (c, some (x, false))); iexact HR
    isplitl [HcS]; · rw [hd]; iexact HcS
    isplitl [HO]; · iexact HO
    isplitr
    · iapply (mayWait_due (F := F) c (.dma (sendQ x)) n (by
        show dlev (sendQ x) < _
        unfold dlev; rw [dec_send]; show 0 < _; omega)); iexact Hlev
    iexact HaS
  iintro ⟨HO, HaS, -, Hpay⟩
  ihave Hp := (Entails.of_eq (rest_send I x c)) $$ Hpay
  imod (Rounds.cell_close ER (rd I) (Set.mem_univ (K (c, some (x, false)))) (fun h => h) (R := 0 + 1) (duties_later I (sendCell x c))) $$ [HaS] with Hz
  · isplitr; · iapply (inv_at I K (c, some (x, false))); iexact HR
    iexact HaS
  iapply Hk
  unfold kit2
  isplitl [HaV HcV Hz]
  · isplitl [HaV]; · iexact HaV
    isplitl [HcV]; · iexact HcV
    iexact Hz
  isplitl [Hp]; · iexact Hp
  iexists (insert (SemLoc.dma (sendQ x), ()) W); iexact HO

/-- The receive wait of transfer `x`: the landing slot with what the sender sent, the receive counter at zero. -/
theorem wp_waitR {Q : α → sProp 𝕄} {src dst : MR S512x256} (hd : dst.view.dmaCredit = N) {qr : DmaSem sig} (hqr : qr = recvQ x)
    {hsrc : src.view.WordExact} {hdst : dst.view.WordExact} (n : ℕ) (hx : x.val < n) {c' : Dev nD} (hc' : c' = sndr x c) :
    iprop(records I K ∗ levAts L lv ∗ kit2 x c ∗ ow c (due c n))
      ⊢ iprop(((kit3 x c ∗ slot c (dstS x) (Y I x c') ∗ ow c (due c n)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qr src dst hsrc hdst) k) Q) := by
  subst hqr hc'
  unfold kit2 ow
  iintro ⟨#HR, #Hlev, ⟨HaV, HcV, HzS⟩, ⟨%W, HO⟩⟩ Hk
  iapply (Rounds.wp_wait_rest_token 𝒱₀ ER (rd I) (c : Thread nD τ) none (κ := K (c, some (x, true)))
      (wpE_waitDma2_eq 𝒱₀ (c : Thread nD τ) none Set.univ) (Set.mem_univ _) () (O := due c n) (W := W) (R := 0) (m := 0) (T := ∅)
      (by rw [Nat.zero_add, hd, expect_dma I c _ (by rw [dec_recv]; rfl)])) $$ [HcV HO HaV]
  · isplitr; · iapply (inv_at I K (c, some (x, true))); iexact HR
    isplitl [HcV]; · rw [hd]; iexact HcV
    isplitl [HO]; · iexact HO
    isplitr
    · iapply (mayWait_due (F := F) c (.dma (recvQ x)) n (by
        have := lv_recv x c
        rw [this]; omega)); iexact Hlev
    iexact HaV
  iintro ⟨HO, HaV, -, Hpay⟩
  ihave Hp := (Entails.of_eq (rest_recv I x c)) $$ Hpay
  imod (Rounds.cell_close ER (rd I) (Set.mem_univ (K (c, some (x, true)))) (fun h => h) (R := 0 + 1) (duties_later I (recvCell x c))) $$ [HaV] with Hz
  · isplitr; · iapply (inv_at I K (c, some (x, true))); iexact HR
    iexact HaV
  iapply Hk
  unfold kit3
  isplitl [HzS Hz]
  · isplitl [HzS]; · iexact HzS
    iexact Hz
  isplitl [Hp]; · iexact Hp
  iexists (insert (SemLoc.dma (recvQ x), ()) W); iexact HO

end Steps

section Slots

variable (c : Dev nD) {α : Type}

/-- A slot loaded: its content. -/
theorem wp_load_slot {Q : α → sProp 𝕄} {s : Shape} (b : MR s) (r : Rect s) (hr : ∀ a, r.stride a = 1) {hl : b.view.LoadsAt r.toLoadRect} (w : r.shape.Idx → Elt F .bf16)
    {k : (r.shape.Idx → Elt F .bf16) → Prog (TpuEff nD τ sig (Elt F) Λ₀ .tc) α} :
    (owns (Ix := Unit) (Name := ℕ) (U := UU) (Lvl := ℕ) (c : Thread nD τ) (b.slice r hr) fullShare w : sProp 𝕄)
      ⊢ iprop((owns (c : Thread nD τ) (b.slice r hr) fullShare w -∗ wp frame (wpE (defs₀ (F := F)) 𝒱₀ (c : Thread nD τ) none) Set.univ (k w) Q)
          -∗ wp frame (wpE (defs₀ (F := F)) 𝒱₀ (c : Thread nD τ) none) Set.univ (.op (.load b r.toLoadRect hl) k) Q) := by
  unfold owns
  iintro ⟨%f, %hf, H⟩ Hk
  subst hf
  iapply (wp_load_rect 𝒱₀ (c : Thread nD τ) none Set.univ (m := b) (r := r) (f := f) (Finset.Subset.refl _)) $$ H
  iintro H
  iapply Hk
  iexists f; isplitr
  · ipureintro; rfl
  · iexact H

/-- A slot stored to: the stored content. -/
theorem wp_store_slot {Q : α → sProp 𝕄} {s : Shape} (b : MR s) (r : Rect s) (hr : ∀ a, r.stride a = 1) (w w' : r.shape.Idx → Elt F .bf16)
    {hx : (b.access r).Stores Finset.univ} {hm : (Finset.univ : Finset r.shape.Idx) = Finset.univ ∨ ∀ a, r.stride a = 1}
    {k : PUnit → Prog (TpuEff nD τ sig (Elt F) Λ₀ .tc) α} :
    (owns (Ix := Unit) (Name := ℕ) (U := UU) (Lvl := ℕ) (c : Thread nD τ) (b.slice r hr) fullShare w : sProp 𝕄)
      ⊢ iprop((owns (c : Thread nD τ) (b.slice r hr) fullShare w' -∗ wp frame (wpE (defs₀ (F := F)) 𝒱₀ (c : Thread nD τ) none) Set.univ (k ⟨⟩) Q)
          -∗ wp frame (wpE (defs₀ (F := F)) 𝒱₀ (c : Thread nD τ) none) Set.univ (.op (.store b r w' Finset.univ hx hm) k) Q) := by
  unfold owns
  iintro ⟨%f, %hf, H⟩ Hk
  iapply (wp_store 𝒱₀ (c : Thread nD τ) none Set.univ (m := b) (r := r) (Mk := Finset.univ) (f := f) (S := (b.access r).set) (Finset.Subset.refl _)) $$ H
  iintro H
  iapply Hk
  iexists ((b.access r).write (Elt F) f w' Finset.univ); isplitr
  · ipureintro; exact View.read_write_univ (v := b.access r) f w'
  · iexact H

end Slots

end Cert.KernelIdeal.Moe

end
-- ==== Proof.Ideal.Slots.lean ====
module

public import proofs.«01_k».proof.Proof.Ideal.Steps

@[expose] public section

set_option maxRecDepth 16384

noncomputable section

/-! # The slots by name, and the accesses of the staged windows -/

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots -/

abbrev AS0 : MR S1x512x256 := (Memref.whole cc0_scratch0).slice (Rect.unit (s := S3x512x256) ![0, 0, 0] S1x512x256.size inb_S3x512x256_S1x512x256_0_0_0) (fun _ => rfl)
abbrev AS1 : MR S1x512x256 := (Memref.whole cc0_scratch0).slice (Rect.unit (s := S3x512x256) ![1, 0, 0] S1x512x256.size inb_S3x512x256_S1x512x256_1_0_0) (fun _ => rfl)
abbrev AS2 : MR S1x512x256 := (Memref.whole cc0_scratch0).slice (Rect.unit (s := S3x512x256) ![2, 0, 0] S1x512x256.size inb_S3x512x256_S1x512x256_2_0_0) (fun _ => rfl)
abbrev AR0 : MR S1x512x256 := (Memref.whole cc0_scratch1).slice (Rect.unit (s := S3x512x256) ![0, 0, 0] S1x512x256.size inb_S3x512x256_S1x512x256_0_0_0) (fun _ => rfl)
abbrev AR1 : MR S1x512x256 := (Memref.whole cc0_scratch1).slice (Rect.unit (s := S3x512x256) ![1, 0, 0] S1x512x256.size inb_S3x512x256_S1x512x256_1_0_0) (fun _ => rfl)
abbrev AR2 : MR S1x512x256 := (Memref.whole cc0_scratch1).slice (Rect.unit (s := S3x512x256) ![2, 0, 0] S1x512x256.size inb_S3x512x256_S1x512x256_2_0_0) (fun _ => rfl)
abbrev AG0 : MR S1x512x256 := (Memref.whole cc0_scratch2).slice (Rect.unit (s := S4x512x256) ![0, 0, 0] S1x512x256.size inb_S4x512x256_S1x512x256_0_0_0) (fun _ => rfl)
abbrev AG1 : MR S1x512x256 := (Memref.whole cc0_scratch2).slice (Rect.unit (s := S4x512x256) ![1, 0, 0] S1x512x256.size inb_S4x512x256_S1x512x256_1_0_0) (fun _ => rfl)
abbrev AG2 : MR S1x512x256 := (Memref.whole cc0_scratch2).slice (Rect.unit (s := S4x512x256) ![2, 0, 0] S1x512x256.size inb_S4x512x256_S1x512x256_2_0_0) (fun _ => rfl)
abbrev AG3 : MR S1x512x256 := (Memref.whole cc0_scratch2).slice (Rect.unit (s := S4x512x256) ![3, 0, 0] S1x512x256.size inb_S4x512x256_S1x512x256_3_0_0) (fun _ => rfl)
abbrev BS0 : MR S1x512x256 := (Memref.whole cc0_scratch3).slice (Rect.unit (s := S3x512x256) ![0, 0, 0] S1x512x256.size inb_S3x512x256_S1x512x256_0_0_0) (fun _ => rfl)
abbrev BS1 : MR S1x512x256 := (Memref.whole cc0_scratch3).slice (Rect.unit (s := S3x512x256) ![1, 0, 0] S1x512x256.size inb_S3x512x256_S1x512x256_1_0_0) (fun _ => rfl)
abbrev BS2 : MR S1x512x256 := (Memref.whole cc0_scratch3).slice (Rect.unit (s := S3x512x256) ![2, 0, 0] S1x512x256.size inb_S3x512x256_S1x512x256_2_0_0) (fun _ => rfl)
abbrev BR0 : MR S1x512x256 := (Memref.whole cc0_scratch4).slice (Rect.unit (s := S3x512x256) ![0, 0, 0] S1x512x256.size inb_S3x512x256_S1x512x256_0_0_0) (fun _ => rfl)
abbrev BR1 : MR S1x512x256 := (Memref.whole cc0_scratch4).slice (Rect.unit (s := S3x512x256) ![1, 0, 0] S1x512x256.size inb_S3x512x256_S1x512x256_1_0_0) (fun _ => rfl)
abbrev BR2 : MR S1x512x256 := (Memref.whole cc0_scratch4).slice (Rect.unit (s := S3x512x256) ![2, 0, 0] S1x512x256.size inb_S3x512x256_S1x512x256_2_0_0) (fun _ => rfl)
abbrev BG0 : MR S1x512x256 := (Memref.whole cc0_scratch5).slice (Rect.unit (s := S4x512x256) ![0, 0, 0] S1x512x256.size inb_S4x512x256_S1x512x256_0_0_0) (fun _ => rfl)
abbrev BG1 : MR S1x512x256 := (Memref.whole cc0_scratch5).slice (Rect.unit (s := S4x512x256) ![1, 0, 0] S1x512x256.size inb_S4x512x256_S1x512x256_1_0_0) (fun _ => rfl)
abbrev BG2 : MR S1x512x256 := (Memref.whole cc0_scratch5).slice (Rect.unit (s := S4x512x256) ![2, 0, 0] S1x512x256.size inb_S4x512x256_S1x512x256_2_0_0) (fun _ => rfl)
abbrev BG3 : MR S1x512x256 := (Memref.whole cc0_scratch5).slice (Rect.unit (s := S4x512x256) ![3, 0, 0] S1x512x256.size inb_S4x512x256_S1x512x256_3_0_0) (fun _ => rfl)

/-- Device `c` holds the slot, at any content. -/
abbrev anyS (c : Dev nD) (s : MR S1x512x256) : sProp 𝕄 := iprop(∃ w, slot (F := F) c s w)

/-- Device `c` holds a staged window at content `f`. -/
abbrev stgd (c : Dev nD) (b : Ref sig .tc) (f : Buf (Elt F) ((c : Thread nD τ).loc b)) : sProp 𝕄 :=
  (((c : Thread nD τ).loc b) ↦{fullShare} f)

/-! ## Where the chunks lie -/

theorem o5_0 : ∀ c : Dev nD, k0_off5 c 0#32 = ![(0 : Fin 4).val, 0, 256 * (rot 3 c).val] := by decide +kernel
theorem o5_1 : ∀ c : Dev nD, k0_off5 c 1#32 = ![(0 : Fin 4).val, 0, 256 * (rot 2 c).val] := by decide +kernel
theorem o5_2 : ∀ c : Dev nD, k0_off5 c 2#32 = ![(0 : Fin 4).val, 0, 256 * (rot 1 c).val] := by decide +kernel
theorem o6_0 : ∀ c : Dev nD, k0_off6 c 0#32 = ![(1 : Fin 4).val, 0, 256 * (rot 3 c).val] := by decide +kernel
theorem o6_1 : ∀ c : Dev nD, k0_off6 c 1#32 = ![(1 : Fin 4).val, 0, 256 * (rot 2 c).val] := by decide +kernel
theorem o6_2 : ∀ c : Dev nD, k0_off6 c 2#32 = ![(1 : Fin 4).val, 0, 256 * (rot 1 c).val] := by decide +kernel
theorem o7_0 : ∀ c : Dev nD, k0_off7 c 0#32 = ![(2 : Fin 4).val, 0, 256 * (rot 3 c).val] := by decide +kernel
theorem o7_1 : ∀ c : Dev nD, k0_off7 c 1#32 = ![(2 : Fin 4).val, 0, 256 * (rot 2 c).val] := by decide +kernel
theorem o7_2 : ∀ c : Dev nD, k0_off7 c 2#32 = ![(2 : Fin 4).val, 0, 256 * (rot 1 c).val] := by decide +kernel
theorem o8_0 : ∀ c : Dev nD, k0_off8 c 0#32 = ![(3 : Fin 4).val, 0, 256 * (rot 3 c).val] := by decide +kernel
theorem o8_1 : ∀ c : Dev nD, k0_off8 c 1#32 = ![(3 : Fin 4).val, 0, 256 * (rot 2 c).val] := by decide +kernel
theorem o8_2 : ∀ c : Dev nD, k0_off8 c 2#32 = ![(3 : Fin 4).val, 0, 256 * (rot 1 c).val] := by decide +kernel
theorem o9_0 : ∀ c : Dev nD, k0_off9 c 0#32 = ![(0 : Fin 4).val, 0, 256 * (rot 1 c).val] := by decide +kernel
theorem o9_1 : ∀ c : Dev nD, k0_off9 c 1#32 = ![(0 : Fin 4).val, 0, 256 * (rot 2 c).val] := by decide +kernel
theorem o9_2 : ∀ c : Dev nD, k0_off9 c 2#32 = ![(0 : Fin 4).val, 0, 256 * (rot 3 c).val] := by decide +kernel
theorem o10_0 : ∀ c : Dev nD, k0_off10 c 0#32 = ![(1 : Fin 4).val, 0, 256 * (rot 1 c).val] := by decide +kernel
theorem o10_1 : ∀ c : Dev nD, k0_off10 c 1#32 = ![(1 : Fin 4).val, 0, 256 * (rot 2 c).val] := by decide +kernel
theorem o10_2 : ∀ c : Dev nD, k0_off10 c 2#32 = ![(1 : Fin 4).val, 0, 256 * (rot 3 c).val] := by decide +kernel
theorem o11_0 : ∀ c : Dev nD, k0_off11 c 0#32 = ![(2 : Fin 4).val, 0, 256 * (rot 1 c).val] := by decide +kernel
theorem o11_1 : ∀ c : Dev nD, k0_off11 c 1#32 = ![(2 : Fin 4).val, 0, 256 * (rot 2 c).val] := by decide +kernel
theorem o11_2 : ∀ c : Dev nD, k0_off11 c 2#32 = ![(2 : Fin 4).val, 0, 256 * (rot 3 c).val] := by decide +kernel
theorem o12_0 : ∀ c : Dev nD, k0_off12 c 0#32 = ![(3 : Fin 4).val, 0, 256 * (rot 1 c).val] := by decide +kernel
theorem o12_1 : ∀ c : Dev nD, k0_off12 c 1#32 = ![(3 : Fin 4).val, 0, 256 * (rot 2 c).val] := by decide +kernel
theorem o12_2 : ∀ c : Dev nD, k0_off12 c 2#32 = ![(3 : Fin 4).val, 0, 256 * (rot 3 c).val] := by decide +kernel
theorem o13 : ∀ c : Dev nD, k0_off13 c = ![512 * (0 : Fin 2).val, 256 * (rot 1 c).val] := by decide +kernel
theorem o14 : ∀ c : Dev nD, k0_off14 c = ![512 * (1 : Fin 2).val, 256 * (rot 3 c).val] := by decide +kernel
theorem o15_0 : ∀ c : Dev nD, k0_off15 c 0#32 = ![512 * (0 : Fin 2).val, 256 * c.val] := by decide +kernel
theorem o15_1 : ∀ c : Dev nD, k0_off15 c 1#32 = ![512 * (0 : Fin 2).val, 256 * (rot 3 c).val] := by decide +kernel
theorem o15_2 : ∀ c : Dev nD, k0_off15 c 2#32 = ![512 * (0 : Fin 2).val, 256 * (rot 2 c).val] := by decide +kernel
theorem o16_0 : ∀ c : Dev nD, k0_off16 c 0#32 = ![512 * (1 : Fin 2).val, 256 * c.val] := by decide +kernel
theorem o16_1 : ∀ c : Dev nD, k0_off16 c 1#32 = ![512 * (1 : Fin 2).val, 256 * (rot 1 c).val] := by decide +kernel
theorem o16_2 : ∀ c : Dev nD, k0_off16 c 2#32 = ![512 * (1 : Fin 2).val, 256 * (rot 2 c).val] := by decide +kernel

theorem inbO (h : Fin 2) (q : Dev nD) : ∀ a, (![512 * h.val, 256 * q.val] : Fin 2 → ℕ) a + S512x256.size a ≤ S1024x1024.size a := by
  revert h q; decide

/-! ## Loads of the staged windows -/

section Loads

variable (D : DevIn F) (c : Dev nD) {α : Type}

theorem wp_ldX {Q : α → sProp 𝕄}
    {hl : (Memref.whole cc0_stg0_0 : Memref sig .tc .vmem S1024x512 .bf16).view.LoadsAt (Rect.unit (s := S1024x512) ![0, 0] S1024x512.size inb_S1024x512_S1024x512_0_0).toLoadRect}
    {k : Vec F S1024x512 .bf16 → Prog (TpuEff nD τ sig (Elt F) Λ₀ .tc) α} :
    (stgd c cc0_stg0_0 D.fx : sProp 𝕄)
      ⊢ iprop((stgd c cc0_stg0_0 D.fx -∗ wp frame (wpE (defs₀ (F := F)) 𝒱₀ (c : Thread nD τ) none) Set.univ (k (ldX D)) Q)
          -∗ wp frame (wpE (defs₀ (F := F)) 𝒱₀ (c : Thread nD τ) none) Set.univ
              (.op (.load (Memref.whole cc0_stg0_0) (Rect.unit (s := S1024x512) ![0, 0] S1024x512.size inb_S1024x512_S1024x512_0_0).toLoadRect hl) k) Q) :=
  wp_load 𝒱₀ (c : Thread nD τ) none Set.univ (m := Memref.whole cc0_stg0_0) (Finset.subset_univ _)

theorem wp_ldR {Q : α → sProp 𝕄}
    {hl : (Memref.whole cc0_stg1_0 : Memref sig .tc .vmem S512x16 .bf16).view.LoadsAt (Rect.unit (s := S512x16) ![0, 0] S512x16.size inb_S512x16_S512x16_0_0).toLoadRect}
    {k : Vec F S512x16 .bf16 → Prog (TpuEff nD τ sig (Elt F) Λ₀ .tc) α} :
    (stgd c cc0_stg1_0 D.fr : sProp 𝕄)
      ⊢ iprop((stgd c cc0_stg1_0 D.fr -∗ wp frame (wpE (defs₀ (F := F)) 𝒱₀ (c : Thread nD τ) none) Set.univ (k (ldR D)) Q)
          -∗ wp frame (wpE (defs₀ (F := F)) 𝒱₀ (c : Thread nD τ) none) Set.univ
              (.op (.load (Memref.whole cc0_stg1_0) (Rect.unit (s := S512x16) ![0, 0] S512x16.size inb_S512x16_S512x16_0_0).toLoadRect hl) k) Q) :=
  wp_load 𝒱₀ (c : Thread nD τ) none Set.univ (m := Memref.whole cc0_stg1_0) (Finset.subset_univ _)

theorem wp_ldI0 {Q : α → sProp 𝕄}
    {hl : (Memref.whole cc0_stg2_0 : Memref sig .tc .vmem S1024x2 .i32).view.LoadsAt (Rect.unit (s := S1024x2) ![0, 0] S1024x1.size inb_S1024x2_S1024x1_0_0).toLoadRect}
    {k : Vec F S1024x1 .i32 → Prog (TpuEff nD τ sig (Elt F) Λ₀ .tc) α} :
    (stgd c cc0_stg2_0 D.fi : sProp 𝕄)
      ⊢ iprop((stgd c cc0_stg2_0 D.fi -∗ wp frame (wpE (defs₀ (F := F)) 𝒱₀ (c : Thread nD τ) none) Set.univ (k (ldI0 D)) Q)
          -∗ wp frame (wpE (defs₀ (F := F)) 𝒱₀ (c : Thread nD τ) none) Set.univ
              (.op (.load (Memref.whole cc0_stg2_0) (Rect.unit (s := S1024x2) ![0, 0] S1024x1.size inb_S1024x2_S1024x1_0_0).toLoadRect hl) k) Q) :=
  wp_load 𝒱₀ (c : Thread nD τ) none Set.univ (m := Memref.whole cc0_stg2_0) (Finset.subset_univ _)

theorem wp_ldI1 {Q : α → sProp 𝕄}
    {hl : (Memref.whole cc0_stg2_0 : Memref sig .tc .vmem S1024x2 .i32).view.LoadsAt (Rect.unit (s := S1024x2) ![0, 1] S1024x1.size inb_S1024x2_S1024x1_0_1).toLoadRect}
    {k : Vec F S1024x1 .i32 → Prog (TpuEff nD τ sig (Elt F) Λ₀ .tc) α} :
    (stgd c cc0_stg2_0 D.fi : sProp 𝕄)
      ⊢ iprop((stgd c cc0_stg2_0 D.fi -∗ wp frame (wpE (defs₀ (F := F)) 𝒱₀ (c : Thread nD τ) none) Set.univ (k (ldI1 D)) Q)
          -∗ wp frame (wpE (defs₀ (F := F)) 𝒱₀ (c : Thread nD τ) none) Set.univ
              (.op (.load (Memref.whole cc0_stg2_0) (Rect.unit (s := S1024x2) ![0, 1] S1024x1.size inb_S1024x2_S1024x1_0_1).toLoadRect hl) k) Q) :=
  wp_load 𝒱₀ (c : Thread nD τ) none Set.univ (m := Memref.whole cc0_stg2_0) (Finset.subset_univ _)

/-- A chunk of an expert's weights loaded. -/
theorem wp_loadW {Q : α → sProp 𝕄} {off : Fin 3 → ℕ} (e : Fin 4) (q : Dev nD) (h : off = ![e.val, 0, 256 * q.val])
    {p : ∀ a, off a + S1x512x256.size a ≤ S4x512x1024.size a}
    {hl : (Memref.whole cc0_stg3_0 : Memref sig .tc .vmem S4x512x1024 .bf16).view.LoadsAt (Rect.unit (s := S4x512x1024) off S1x512x256.size p).toLoadRect}
    {k : Vec F S1x512x256 .bf16 → Prog (TpuEff nD τ sig (Elt F) Λ₀ .tc) α} :
    (stgd c cc0_stg3_0 D.fw : sProp 𝕄)
      ⊢ iprop((stgd c cc0_stg3_0 D.fw -∗ wp frame (wpE (defs₀ (F := F)) 𝒱₀ (c : Thread nD τ) none) Set.univ (k (ldW D e q)) Q)
          -∗ wp frame (wpE (defs₀ (F := F)) 𝒱₀ (c : Thread nD τ) none) Set.univ
              (.op (.load (Memref.whole cc0_stg3_0) (Rect.unit (s := S4x512x1024) off S1x512x256.size p).toLoadRect hl) k) Q) := by
  rw [← ldW_of D e q h p]
  exact wp_load 𝒱₀ (c : Thread nD τ) none Set.univ (m := Memref.whole cc0_stg3_0) (Finset.subset_univ _)

end Loads

/-! ## Stores to the result -/

section Out

variable (c : Dev nD)

/-- The result with block (row half `h`, column chunk `q`) set to `w`. -/
def stO {c : Dev nD} (f : Buf (Elt F) ((c : Thread nD τ).loc cc0_stg4_0)) (h : Fin 2) (q : Dev nD) (w : FVec F S512x256 .f32) :
    Buf (Elt F) ((c : Thread nD τ).loc cc0_stg4_0) :=
  ((Memref.whole cc0_stg4_0 : Memref sig .tc .vmem S1024x1024 .f32).access (Rect.unit (s := S1024x1024) ![512 * h.val, 256 * q.val] S512x256.size (inbO h q))).write (Elt F) f w Finset.univ

theorem wp_storeO {α : Type} {Q : α → sProp 𝕄} (f : Buf (Elt F) ((c : Thread nD τ).loc cc0_stg4_0)) {off : Fin 2 → ℕ} (h : Fin 2) (q : Dev nD) (w' w : FVec F S512x256 .f32)
    (ho : off = ![512 * h.val, 256 * q.val]) (hw : w' = w) {p : ∀ a, off a + S512x256.size a ≤ S1024x1024.size a}
    {hx : ((Memref.whole cc0_stg4_0 : Memref sig .tc .vmem S1024x1024 .f32).access (Rect.unit (s := S1024x1024) off S512x256.size p)).Stores Finset.univ}
    {hm : (Finset.univ : Finset (Rect.unit (s := S1024x1024) off S512x256.size p).shape.Idx) = Finset.univ ∨ ∀ a, (Rect.unit (s := S1024x1024) off S512x256.size p).stride a = 1}
    {k : PUnit → Prog (TpuEff nD τ sig (Elt F) Λ₀ .tc) α} :
    (stgd c cc0_stg4_0 f : sProp 𝕄)
      ⊢ iprop((stgd c cc0_stg4_0 (stO f h q w) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_stg4_0) (Rect.unit (s := S1024x1024) off S512x256.size p) w' Finset.univ hx hm) k) Q) := by
  subst ho
  subst hw
  unfold stO
  exact wp_store 𝒱₀ (c : Thread nD τ) none Set.univ (m := Memref.whole cc0_stg4_0)
    (r := Rect.unit (s := S1024x1024) ![512 * h.val, 256 * q.val] S512x256.size (inbO h q)) (Mk := Finset.univ) (f := f) (S := Finset.univ) (Finset.subset_univ _)

end Out

end Cert.KernelIdeal.Moe

end
-- ==== Proof.Ideal.Parts1.lean ====
module

public import proofs.«01_k».proof.Proof.Ideal.Slots

@[expose] public section

set_option maxRecDepth 16384

noncomputable section

/-! # The body, part by part -/

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Part 2: the weights of the four experts' copies of the tokens, first two. -/
theorem part2_ok (I : Dev nD → DevIn F) (c : Dev nD) {Q : (Σ' (v30 : IVec S1024x1 32) (v45 : FVec F S1024x1 .f32) (v46 : FVec F S1024x1 .f32) (v63 : FVec F S1024x512 .bf16) (v80 : FVec F S1024x512 .bf16), BitVec 32) → sProp 𝕄} :
    (Q ⟨(k0_pay5 (ldI1 (I c))), (k0_pay9 (v26 (I c)) (v28 (I c)) (ldI1 (I c))), (k0_pay10 (v26 (I c)) (v28 (I c)) (ldI1 (I c))), (xw0 (I c) c), (xw1 (I c) c), 4#32⟩ : sProp 𝕄)
      ⊢ wp frame (wpE (defs₀ (F := F)) 𝒱₀ (c : Thread nD τ) none) Set.univ
      (k0_part2 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 (myW c) (k0_pay2 (ldX (I c))) (v26 (I c)) (v28 (I c)) (ldI1 (I c))) Q := by
  simp only [k0_part2_eq_skeleton]; unfold k0_part2_skel
  simp only [Prog.lift, Prog.bind_op, Prog.bind_ret, Prog.pure_eq_ret]
  rw [wp_ret, show k0_pay11 (myW c) (k0_pay2 (ldX (I c))) (v26 (I c)) (v28 (I c)) (ldI1 (I c)) = xw0 (I c) c from rfl,
    show k0_pay12 (myW c) (k0_pay2 (ldX (I c))) (v26 (I c)) (v28 (I c)) (ldI1 (I c)) = xw1 (I c) c from rfl]
  iintro H; imodintro; iexact H

/-- Part 3: the other two. -/
theorem part3_ok (I : Dev nD → DevIn F) (c : Dev nD) {Q : (Σ' (v97 : FVec F S1024x512 .bf16) (v114 : FVec F S1024x512 .bf16) (v122 : FVec F S512x256 .f32), FVec F S512x256 .f32) → sProp 𝕄} :
    (stgd c cc0_stg3_0 (I c).fw : sProp 𝕄)
      ⊢ iprop(((stgd c cc0_stg3_0 (I c).fw) -∗ Q ⟨(xw2 (I c) c), (xw3 (I c) c), (k0_pay15 (xw0 (I c) c) (ldW (I c) 0 c)), (k0_pay16 (xw1 (I c) c) (ldW (I c) 1 c))⟩)
          -∗ wp frame (wpE (defs₀ (F := F)) 𝒱₀ (c : Thread nD τ) none) Set.univ
      (k0_part3 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c (myW c) (k0_pay2 (ldX (I c))) (v28 (I c)) (k0_pay5 (ldI1 (I c))) (k0_pay9 (v26 (I c)) (v28 (I c)) (ldI1 (I c))) (k0_pay10 (v26 (I c)) (v28 (I c)) (ldI1 (I c))) (xw0 (I c) c) (xw1 (I c) c) 4#32) Q) := by
  simp only [k0_part3_eq_skeleton]; unfold k0_part3_skel
  simp only [Prog.lift, Prog.bind_op, Prog.bind_ret, Prog.pure_eq_ret]
  iintro HD3 Hk
  iapply (wp_loadW (I c) c 0 c (k0_off1_eq c)) $$ HD3; iintro HD3
  iapply (wp_loadW (I c) c 1 c (k0_off2_eq c)) $$ HD3; iintro HD3
  rw [show k0_pay13 (myW c) (k0_pay2 (ldX (I c))) (v28 (I c)) (k0_pay5 (ldI1 (I c))) (k0_pay9 (v26 (I c)) (v28 (I c)) (ldI1 (I c))) (k0_pay10 (v26 (I c)) (v28 (I c)) (ldI1 (I c))) 4#32 = xw2 (I c) c from rfl,
    show k0_pay14 (myW c) (k0_pay2 (ldX (I c))) (v28 (I c)) (k0_pay5 (ldI1 (I c))) (k0_pay9 (v26 (I c)) (v28 (I c)) (ldI1 (I c))) (k0_pay10 (v26 (I c)) (v28 (I c)) (ldI1 (I c))) = xw3 (I c) c from rfl]
  rw [wp_ret]; imodintro; iapply Hk
  iexact HD3

/-- Part 4: the device's own chunk, upper rows. -/
theorem part4_ok (I : Dev nD → DevIn F) (c : Dev nD) {Q : (FVec F S512x256 .f32) → sProp 𝕄} :
    iprop(stgd c cc0_stg3_0 (I c).fw ∗ anyS c AS0)
      ⊢ iprop(((stgd c cc0_stg3_0 (I c).fw ∗ slot c AS0 (Y I 0 c)) -∗ Q (k0_pay18 (xw0 (I c) c) (xw1 (I c) c) (ldW (I c) 0 c) (ldW (I c) 1 c)))
          -∗ wp frame (wpE (defs₀ (F := F)) 𝒱₀ (c : Thread nD τ) none) Set.univ
      (k0_part4 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c (myW c) (xw0 (I c) c) (xw1 (I c) c) (xw2 (I c) c) (xw3 (I c) c) (k0_pay15 (xw0 (I c) c) (ldW (I c) 0 c)) (k0_pay16 (xw1 (I c) c) (ldW (I c) 1 c))) Q) := by
  simp only [k0_part4_eq_skeleton]; unfold k0_part4_skel
  simp only [Prog.lift, Prog.bind_op, Prog.bind_ret, Prog.pure_eq_ret]
  iintro ⟨HD3, HS0_0⟩ Hk
  iapply (wp_loadW (I c) c 2 c (k0_off3_eq c)) $$ HD3; iintro HD3
  iapply (wp_loadW (I c) c 3 c (k0_off4_eq c)) $$ HD3; iintro HD3
  icases HS0_0 with ⟨%u1, HS0_0⟩
  iapply (wp_load_slot c (Memref.whole cc0_scratch0) (Rect.unit (s := S3x512x256) ![0, 0, 0] S1x512x256.size inb_S3x512x256_S1x512x256_0_0_0) (fun _ => rfl) u1) $$ HS0_0; iintro HS0_0
  iapply (wp_store_slot c (Memref.whole cc0_scratch0) (Rect.unit (s := S3x512x256) ![0, 0, 0] S1x512x256.size inb_S3x512x256_S1x512x256_0_0_0) (fun _ => rfl) u1 (k0_pay17 (xw2 (I c) c) (xw3 (I c) c) (k0_pay15 (xw0 (I c) c) (ldW (I c) 0 c)) (k0_pay16 (xw1 (I c) c) (ldW (I c) 1 c)) (ldW (I c) 2 c) (ldW (I c) 3 c))) $$ HS0_0; iintro HS0_0
  ihave HS0_0 := (Entails.of_eq (congrArg (slot c AS0) (show (k0_pay17 (xw2 (I c) c) (xw3 (I c) c) (k0_pay15 (xw0 (I c) c) (ldW (I c) 0 c)) (k0_pay16 (xw1 (I c) c) (ldW (I c) 1 c)) (ldW (I c) 2 c) (ldW (I c) 3 c)) = Y I 0 c from rfl))) $$ HS0_0
  iapply (wp_loadW (I c) c 0 c (k0_off1_eq c)) $$ HD3; iintro HD3
  iapply (wp_loadW (I c) c 1 c (k0_off2_eq c)) $$ HD3; iintro HD3
  rw [wp_ret]; imodintro; iapply Hk
  isplitl [HD3]; · iexact HD3
  iexact HS0_0

/-- Part 5: the device's own chunk, lower rows, and the first send of ring `a`. -/
theorem part5_ok (I : Dev nD → DevIn F) (K : KI → ℕ) (c : Dev nD) (v5 : BitVec 32) (v7 : BitVec 32) {Q : (PUnit) → sProp 𝕄} :
    iprop(records I K ∗ stgd c cc0_stg3_0 (I c).fw ∗ slot c AS0 (Y I 0 c) ∗ anyS c BS0 ∗ kit0 0 c ∗ free 0 (peer 0 c) ∗ ow c (due c 0))
      ⊢ iprop(((stgd c cc0_stg3_0 (I c).fw ∗ slot c BS0 (Y I 1 c) ∗ kit1 0 c ∗ ow c (due c 1)) -∗ Q ⟨⟩)
          -∗ wp frame (wpE (defs₀ (F := F)) 𝒱₀ (c : Thread nD τ) none) Set.univ
      (k0_part5 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c (myW c) v5 v7 (xw2 (I c) c) (xw3 (I c) c) (k0_pay18 (xw0 (I c) c) (xw1 (I c) c) (ldW (I c) 0 c) (ldW (I c) 1 c))) Q) := by
  simp only [k0_part5_eq_skeleton]; unfold k0_part5_skel
  simp only [Prog.lift, Prog.bind_op, Prog.bind_ret, Prog.pure_eq_ret]
  iintro ⟨#HR, HD3, HS0_0, HS3_0, HK0, HF0, HOW⟩ Hk
  iapply (wp_loadW (I c) c 2 c (k0_off3_eq c)) $$ HD3; iintro HD3
  iapply (wp_loadW (I c) c 3 c (k0_off4_eq c)) $$ HD3; iintro HD3
  icases HS3_0 with ⟨%u2, HS3_0⟩
  iapply (wp_load_slot c (Memref.whole cc0_scratch3) (Rect.unit (s := S3x512x256) ![0, 0, 0] S1x512x256.size inb_S3x512x256_S1x512x256_0_0_0) (fun _ => rfl) u2) $$ HS3_0; iintro HS3_0
  iapply (wp_store_slot c (Memref.whole cc0_scratch3) (Rect.unit (s := S3x512x256) ![0, 0, 0] S1x512x256.size inb_S3x512x256_S1x512x256_0_0_0) (fun _ => rfl) u2 (k0_pay19 (xw2 (I c) c) (xw3 (I c) c) (k0_pay18 (xw0 (I c) c) (xw1 (I c) c) (ldW (I c) 0 c) (ldW (I c) 1 c)) (ldW (I c) 2 c) (ldW (I c) 3 c))) $$ HS3_0; iintro HS3_0
  ihave HS3_0 := (Entails.of_eq (congrArg (slot c BS0) (show (k0_pay19 (xw2 (I c) c) (xw3 (I c) c) (k0_pay18 (xw0 (I c) c) (xw1 (I c) c) (ldW (I c) 0 c) (ldW (I c) 1 c)) (ldW (I c) 2 c) (ldW (I c) 3 c)) = Y I 1 c from rfl))) $$ HS3_0
  iapply (wp_xfer I K 0 c (n := ⟨k0_dev3 c, k0_dev3_lt c⟩) (Fin.ext (k0_dev3_eq c)) (src := flat AS0) (dst := flat AR0) rfl rfl (qs := ((cc0_scratch6.slice (Rect.unit (s := S3) ![0] S1.size inb_S3_S1_0)).squeeze S_ squeezes_S1_S_).sem) (qr := ((cc0_scratch7.slice (Rect.unit (s := S3) ![0] S1.size inb_S3_S1_0)).squeeze S_ squeezes_S1_S_).sem) rfl rfl (j := 0) (j' := 1) rfl rfl) $$ [HK0 HS0_0 HF0 HOW]
  · isplitr; · iexact HR
    isplitl [HK0]; · iexact HK0
    isplitl [HS0_0]; · iexact HS0_0
    isplitl [HF0]; · iexact HF0
    iexact HOW
  iintro ⟨HK0, HOW⟩
  rw [wp_ret]; imodintro; iapply Hk
  isplitl [HD3]; · iexact HD3
  isplitl [HS3_0]; · iexact HS3_0
  isplitl [HK0]; · iexact HK0
  iexact HOW

/-- Part 6: the next effects in program order. -/
theorem part6_ok (I : Dev nD → DevIn F) (K : KI → ℕ) (c : Dev nD) {Q : (Σ' (v226 : FVec F S512x256 .f32), FVec F S512x256 .f32) → sProp 𝕄} :
    iprop(records I K ∗ stgd c cc0_stg3_0 (I c).fw ∗ slot c BS0 (Y I 1 c) ∗ kit0 1 c ∗ free 1 (peer 1 c) ∗ ow c (due c 1))
      ⊢ iprop(((stgd c cc0_stg3_0 (I c).fw ∗ kit1 1 c ∗ ow c (due c 2)) -∗ Q ⟨(k0_pay20 (xw0 (I c) c) (xw1 (I c) c) (xw2 (I c) c) (ldW (I c) 0 (rot 3 c)) (ldW (I c) 1 (rot 3 c)) (ldW (I c) 2 (rot 3 c))), (k0_pay21 (xw3 (I c) c) (ldW (I c) 3 (rot 3 c)))⟩)
          -∗ wp frame (wpE (defs₀ (F := F)) 𝒱₀ (c : Thread nD τ) none) Set.univ
      (k0_part6 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c (myW c) (xw0 (I c) c) (xw1 (I c) c) (xw2 (I c) c) (xw3 (I c) c)) Q) := by
  simp only [k0_part6_eq_skeleton]; unfold k0_part6_skel
  simp only [Prog.lift, Prog.bind_op, Prog.bind_ret, Prog.pure_eq_ret]
  iintro ⟨#HR, HD3, HS3_0, HK1, HF1, HOW⟩ Hk
  iapply (wp_xfer I K 1 c (n := ⟨k0_dev4 c, k0_dev4_lt c⟩) (Fin.ext (k0_dev4_eq c)) (src := flat BS0) (dst := flat BR0) rfl rfl (qs := ((cc0_scratch10.slice (Rect.unit (s := S3) ![0] S1.size inb_S3_S1_0)).squeeze S_ squeezes_S1_S_).sem) (qr := ((cc0_scratch11.slice (Rect.unit (s := S3) ![0] S1.size inb_S3_S1_0)).squeeze S_ squeezes_S1_S_).sem) rfl rfl (j := 1) (j' := 2) rfl rfl) $$ [HK1 HS3_0 HF1 HOW]
  · isplitr; · iexact HR
    isplitl [HK1]; · iexact HK1
    isplitl [HS3_0]; · iexact HS3_0
    isplitl [HF1]; · iexact HF1
    iexact HOW
  iintro ⟨HK1, HOW⟩
  iapply (wp_loadW (I c) c 0 (rot 3 c) (o5_0 c)) $$ HD3; iintro HD3
  iapply (wp_loadW (I c) c 1 (rot 3 c) (o6_0 c)) $$ HD3; iintro HD3
  iapply (wp_loadW (I c) c 2 (rot 3 c) (o7_0 c)) $$ HD3; iintro HD3
  iapply (wp_loadW (I c) c 3 (rot 3 c) (o8_0 c)) $$ HD3; iintro HD3
  rw [wp_ret]; imodintro; iapply Hk
  isplitl [HD3]; · iexact HD3
  isplitl [HK1]; · iexact HK1
  iexact HOW

/-- Part 7: the next effects in program order. -/
theorem part7_ok (I : Dev nD → DevIn F) (c : Dev nD) {Q : (Σ' (v233 : FVec F S512x256 .f32), FVec F S512x256 .f32) → sProp 𝕄} :
    (stgd c cc0_stg3_0 (I c).fw : sProp 𝕄)
      ⊢ iprop(((stgd c cc0_stg3_0 (I c).fw) -∗ Q ⟨(k0_pay22 (k0_pay20 (xw0 (I c) c) (xw1 (I c) c) (xw2 (I c) c) (ldW (I c) 0 (rot 3 c)) (ldW (I c) 1 (rot 3 c)) (ldW (I c) 2 (rot 3 c))) (k0_pay21 (xw3 (I c) c) (ldW (I c) 3 (rot 3 c)))), (k0_pay23 (xw0 (I c) c) (xw1 (I c) c) (xw2 (I c) c) (xw3 (I c) c) (ldW (I c) 0 (rot 1 c)) (ldW (I c) 1 (rot 1 c)) (ldW (I c) 2 (rot 1 c)) (ldW (I c) 3 (rot 1 c)))⟩)
          -∗ wp frame (wpE (defs₀ (F := F)) 𝒱₀ (c : Thread nD τ) none) Set.univ
      (k0_part7 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c (myW c) (xw0 (I c) c) (xw1 (I c) c) (xw2 (I c) c) (xw3 (I c) c) (k0_pay20 (xw0 (I c) c) (xw1 (I c) c) (xw2 (I c) c) (ldW (I c) 0 (rot 3 c)) (ldW (I c) 1 (rot 3 c)) (ldW (I c) 2 (rot 3 c))) (k0_pay21 (xw3 (I c) c) (ldW (I c) 3 (rot 3 c)))) Q) := by
  simp only [k0_part7_eq_skeleton]; unfold k0_part7_skel
  simp only [Prog.lift, Prog.bind_op, Prog.bind_ret, Prog.pure_eq_ret]
  iintro HD3 Hk
  iapply (wp_loadW (I c) c 0 (rot 1 c) (o9_0 c)) $$ HD3; iintro HD3
  iapply (wp_loadW (I c) c 1 (rot 1 c) (o10_0 c)) $$ HD3; iintro HD3
  iapply (wp_loadW (I c) c 2 (rot 1 c) (o11_0 c)) $$ HD3; iintro HD3
  iapply (wp_loadW (I c) c 3 (rot 1 c) (o12_0 c)) $$ HD3; iintro HD3
  rw [wp_ret]; imodintro; iapply Hk
  iexact HD3

/-- Part 8: the next effects in program order. -/
theorem part8_ok (I : Dev nD → DevIn F) (K : KI → ℕ) (c : Dev nD) (v5 : BitVec 32) (v7 : BitVec 32) {Q : (FVec F S512x256 .f32) → sProp 𝕄} :
    iprop(records I K ∗ levAts L lv ∗ kit1 0 c ∗ kit1 1 c ∗ ow c (due c 2))
      ⊢ iprop(((slot c AS0 (Y I 0 c) ∗ slot c AR0 (Y I 0 (prv c)) ∗ slot c BS0 (Y I 1 c) ∗ kit3 0 c ∗ kit2 1 c ∗ ow c (due c 2)) -∗ Q (k0_pay24 (k0_pay22 (k0_pay20 (xw0 (I c) c) (xw1 (I c) c) (xw2 (I c) c) (ldW (I c) 0 (rot 3 c)) (ldW (I c) 1 (rot 3 c)) (ldW (I c) 2 (rot 3 c))) (k0_pay21 (xw3 (I c) c) (ldW (I c) 3 (rot 3 c)))) (Y I 0 (prv c))))
          -∗ wp frame (wpE (defs₀ (F := F)) 𝒱₀ (c : Thread nD τ) none) Set.univ
      (k0_part8 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 v5 v7 (k0_pay22 (k0_pay20 (xw0 (I c) c) (xw1 (I c) c) (xw2 (I c) c) (ldW (I c) 0 (rot 3 c)) (ldW (I c) 1 (rot 3 c)) (ldW (I c) 2 (rot 3 c))) (k0_pay21 (xw3 (I c) c) (ldW (I c) 3 (rot 3 c))))) Q) := by
  simp only [k0_part8_eq_skeleton]; unfold k0_part8_skel
  simp only [Prog.lift, Prog.bind_op, Prog.bind_ret, Prog.pure_eq_ret]
  iintro ⟨#HR, #HL, HK0, HK1, HOW⟩ Hk
  iapply (wp_waitS I K 0 c (src := flat AR0) (dst := flat AS0) (credit_src 0) (qs := ((cc0_scratch6.slice (Rect.unit (s := S3) ![0] S1.size inb_S3_S1_0)).squeeze S_ squeezes_S1_S_).sem) rfl 2) $$ [HK0 HOW]
  · isplitr; · iexact HR
    isplitr; · iexact HL
    isplitl [HK0]; · iexact HK0
    iexact HOW
  iintro ⟨HK0, HS0_0, HOW⟩
  ihave HS0_0 := (Entails.of_eq (show slot c (srcS 0) (Y I 0 c) = slot c AS0 (Y I 0 c) from rfl)) $$ HS0_0
  iapply (wp_waitR I K 0 c (src := flat AS0) (dst := flat AR0) (credit_dst 0) (qr := ((cc0_scratch7.slice (Rect.unit (s := S3) ![0] S1.size inb_S3_S1_0)).squeeze S_ squeezes_S1_S_).sem) rfl 2 (by decide) (c' := prv c) rfl) $$ [HK0 HOW]
  · isplitr; · iexact HR
    isplitr; · iexact HL
    isplitl [HK0]; · iexact HK0
    iexact HOW
  iintro ⟨HK0, HS1_0, HOW⟩
  ihave HS1_0 := (Entails.of_eq (show slot c (dstS 0) (Y I 0 (prv c)) = slot c AR0 (Y I 0 (prv c)) from rfl)) $$ HS1_0
  iapply (wp_load_slot c (Memref.whole cc0_scratch1) (Rect.unit (s := S3x512x256) ![0, 0, 0] S1x512x256.size inb_S3x512x256_S1x512x256_0_0_0) (fun _ => rfl) (Y I 0 (prv c))) $$ HS1_0; iintro HS1_0
  iapply (wp_waitS I K 1 c (src := flat BR0) (dst := flat BS0) (credit_src 1) (qs := ((cc0_scratch10.slice (Rect.unit (s := S3) ![0] S1.size inb_S3_S1_0)).squeeze S_ squeezes_S1_S_).sem) rfl 2) $$ [HK1 HOW]
  · isplitr; · iexact HR
    isplitr; · iexact HL
    isplitl [HK1]; · iexact HK1
    iexact HOW
  iintro ⟨HK1, HS3_0, HOW⟩
  ihave HS3_0 := (Entails.of_eq (show slot c (srcS 1) (Y I 1 c) = slot c BS0 (Y I 1 c) from rfl)) $$ HS3_0
  rw [wp_ret]; imodintro; iapply Hk
  isplitl [HS0_0]; · iexact HS0_0
  isplitl [HS1_0]; · iexact HS1_0
  isplitl [HS3_0]; · iexact HS3_0
  isplitl [HK0]; · iexact HK0
  isplitl [HK1]; · iexact HK1
  iexact HOW

/-- Part 9: the next effects in program order. -/
theorem part9_ok (I : Dev nD → DevIn F) (K : KI → ℕ) (c : Dev nD) (v5 : BitVec 32) (v7 : BitVec 32) {Q : (BitVec 32) → sProp 𝕄} :
    iprop(records I K ∗ levAts L lv ∗ anyS c AS1 ∗ anyS c BS1 ∗ kit2 1 c ∗ kit0 2 c ∗ free 2 (peer 2 c) ∗ ow c (due c 2))
      ⊢ iprop(((slot c BS1 (Y I 3 c) ∗ slot c BR0 (Y I 1 (nxt c)) ∗ kit3 1 c ∗ kit1 2 c ∗ ow c (due c 3)) -∗ Q (Scalar.muli v5 1#32))
          -∗ wp frame (wpE (defs₀ (F := F)) 𝒱₀ (c : Thread nD τ) none) Set.univ
      (k0_part9 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c v5 v7 (k0_pay23 (xw0 (I c) c) (xw1 (I c) c) (xw2 (I c) c) (xw3 (I c) c) (ldW (I c) 0 (rot 1 c)) (ldW (I c) 1 (rot 1 c)) (ldW (I c) 2 (rot 1 c)) (ldW (I c) 3 (rot 1 c))) (k0_pay24 (k0_pay22 (k0_pay20 (xw0 (I c) c) (xw1 (I c) c) (xw2 (I c) c) (ldW (I c) 0 (rot 3 c)) (ldW (I c) 1 (rot 3 c)) (ldW (I c) 2 (rot 3 c))) (k0_pay21 (xw3 (I c) c) (ldW (I c) 3 (rot 3 c)))) (Y I 0 (prv c)))) Q) := by
  simp only [k0_part9_eq_skeleton]; unfold k0_part9_skel
  simp only [Prog.lift, Prog.bind_op, Prog.bind_ret, Prog.pure_eq_ret]
  iintro ⟨#HR, #HL, HS0_1, HS3_1, HK1, HK2, HF2, HOW⟩ Hk
  iapply (wp_waitR I K 1 c (src := flat BS0) (dst := flat BR0) (credit_dst 1) (qr := ((cc0_scratch11.slice (Rect.unit (s := S3) ![0] S1.size inb_S3_S1_0)).squeeze S_ squeezes_S1_S_).sem) rfl 2 (by decide) (c' := nxt c) rfl) $$ [HK1 HOW]
  · isplitr; · iexact HR
    isplitr; · iexact HL
    isplitl [HK1]; · iexact HK1
    iexact HOW
  iintro ⟨HK1, HS4_0, HOW⟩
  ihave HS4_0 := (Entails.of_eq (show slot c (dstS 1) (Y I 1 (nxt c)) = slot c BR0 (Y I 1 (nxt c)) from rfl)) $$ HS4_0
  iapply (wp_load_slot c (Memref.whole cc0_scratch4) (Rect.unit (s := S3x512x256) ![0, 0, 0] S1x512x256.size inb_S3x512x256_S1x512x256_0_0_0) (fun _ => rfl) (Y I 1 (nxt c))) $$ HS4_0; iintro HS4_0
  icases HS0_1 with ⟨%u3, HS0_1⟩
  iapply (wp_load_slot c (Memref.whole cc0_scratch0) (Rect.unit (s := S3x512x256) ![1, 0, 0] S1x512x256.size inb_S3x512x256_S1x512x256_1_0_0) (fun _ => rfl) u3) $$ HS0_1; iintro HS0_1
  iapply (wp_store_slot c (Memref.whole cc0_scratch0) (Rect.unit (s := S3x512x256) ![1, 0, 0] S1x512x256.size inb_S3x512x256_S1x512x256_1_0_0) (fun _ => rfl) u3 (k0_pay25 (k0_pay24 (k0_pay22 (k0_pay20 (xw0 (I c) c) (xw1 (I c) c) (xw2 (I c) c) (ldW (I c) 0 (rot 3 c)) (ldW (I c) 1 (rot 3 c)) (ldW (I c) 2 (rot 3 c))) (k0_pay21 (xw3 (I c) c) (ldW (I c) 3 (rot 3 c)))) (Y I 0 (prv c))))) $$ HS0_1; iintro HS0_1
  ihave HS0_1 := (Entails.of_eq (congrArg (slot c AS1) (show (k0_pay25 (k0_pay24 (k0_pay22 (k0_pay20 (xw0 (I c) c) (xw1 (I c) c) (xw2 (I c) c) (ldW (I c) 0 (rot 3 c)) (ldW (I c) 1 (rot 3 c)) (ldW (I c) 2 (rot 3 c))) (k0_pay21 (xw3 (I c) c) (ldW (I c) 3 (rot 3 c)))) (Y I 0 (prv c)))) = Y I 2 c from rfl))) $$ HS0_1
  icases HS3_1 with ⟨%u4, HS3_1⟩
  iapply (wp_load_slot c (Memref.whole cc0_scratch3) (Rect.unit (s := S3x512x256) ![1, 0, 0] S1x512x256.size inb_S3x512x256_S1x512x256_1_0_0) (fun _ => rfl) u4) $$ HS3_1; iintro HS3_1
  iapply (wp_store_slot c (Memref.whole cc0_scratch3) (Rect.unit (s := S3x512x256) ![1, 0, 0] S1x512x256.size inb_S3x512x256_S1x512x256_1_0_0) (fun _ => rfl) u4 (k0_pay26 (k0_pay23 (xw0 (I c) c) (xw1 (I c) c) (xw2 (I c) c) (xw3 (I c) c) (ldW (I c) 0 (rot 1 c)) (ldW (I c) 1 (rot 1 c)) (ldW (I c) 2 (rot 1 c)) (ldW (I c) 3 (rot 1 c))) (Y I 1 (nxt c)))) $$ HS3_1; iintro HS3_1
  ihave HS3_1 := (Entails.of_eq (congrArg (slot c BS1) (show (k0_pay26 (k0_pay23 (xw0 (I c) c) (xw1 (I c) c) (xw2 (I c) c) (xw3 (I c) c) (ldW (I c) 0 (rot 1 c)) (ldW (I c) 1 (rot 1 c)) (ldW (I c) 2 (rot 1 c)) (ldW (I c) 3 (rot 1 c))) (Y I 1 (nxt c))) = Y I 3 c from rfl))) $$ HS3_1
  iapply (wp_xfer I K 2 c (n := ⟨k0_dev5 c, k0_dev5_lt c⟩) (Fin.ext (k0_dev5_eq c)) (src := flat AS1) (dst := flat AR1) rfl rfl (qs := ((cc0_scratch6.slice (Rect.unit (s := S3) ![1] S1.size inb_S3_S1_1)).squeeze S_ squeezes_S1_S_).sem) (qr := ((cc0_scratch7.slice (Rect.unit (s := S3) ![1] S1.size inb_S3_S1_1)).squeeze S_ squeezes_S1_S_).sem) rfl rfl (j := 2) (j' := 3) rfl rfl) $$ [HK2 HS0_1 HF2 HOW]
  · isplitr; · iexact HR
    isplitl [HK2]; · iexact HK2
    isplitl [HS0_1]; · iexact HS0_1
    isplitl [HF2]; · iexact HF2
    iexact HOW
  iintro ⟨HK2, HOW⟩
  rw [wp_ret]; imodintro; iapply Hk
  isplitl [HS3_1]; · iexact HS3_1
  isplitl [HS4_0]; · iexact HS4_0
  isplitl [HK1]; · iexact HK1
  isplitl [HK2]; · iexact HK2
  iexact HOW

end Cert.KernelIdeal.Moe

end
-- ==== Proof.Ideal.Parts2.lean ====
module

public import proofs.«01_k».proof.Proof.Ideal.Slots

@[expose] public section

set_option maxRecDepth 16384

noncomputable section

/-! # The body, part by part -/

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Part 10: the next effects in program order. -/
theorem part10_ok (I : Dev nD → DevIn F) (K : KI → ℕ) (c : Dev nD) (v5 : BitVec 32) {Q : (Σ' (v355 : FVec F S512x256 .f32), BitVec 32) → sProp 𝕄} :
    iprop(records I K ∗ stgd c cc0_stg3_0 (I c).fw ∗ slot c BS1 (Y I 3 c) ∗ kit0 3 c ∗ free 3 (peer 3 c) ∗ ow c (due c 3))
      ⊢ iprop(((stgd c cc0_stg3_0 (I c).fw ∗ kit1 3 c ∗ ow c (due c 4)) -∗ Q ⟨(k0_pay27 (xw0 (I c) c) (xw1 (I c) c) (xw2 (I c) c) (ldW (I c) 0 (rot 2 c)) (ldW (I c) 1 (rot 2 c)) (ldW (I c) 2 (rot 2 c))), (Scalar.muli (Scalar.remsi (Scalar.subi (Scalar.subi (Scalar.addi (myW c) 4#32) 1#32) 1#32) 4#32) 256#32)⟩)
          -∗ wp frame (wpE (defs₀ (F := F)) 𝒱₀ (c : Thread nD τ) none) Set.univ
      (k0_part10 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c (myW c) (xw0 (I c) c) (xw1 (I c) c) (xw2 (I c) c) (Scalar.muli v5 1#32)) Q) := by
  simp only [k0_part10_eq_skeleton]; unfold k0_part10_skel
  simp only [Prog.lift, Prog.bind_op, Prog.bind_ret, Prog.pure_eq_ret]
  iintro ⟨#HR, HD3, HS3_1, HK3, HF3, HOW⟩ Hk
  iapply (wp_xfer I K 3 c (n := ⟨k0_dev6 c, k0_dev6_lt c⟩) (Fin.ext (k0_dev6_eq c)) (src := flat BS1) (dst := flat BR1) rfl rfl (qs := ((cc0_scratch10.slice (Rect.unit (s := S3) ![1] S1.size inb_S3_S1_1)).squeeze S_ squeezes_S1_S_).sem) (qr := ((cc0_scratch11.slice (Rect.unit (s := S3) ![1] S1.size inb_S3_S1_1)).squeeze S_ squeezes_S1_S_).sem) rfl rfl (j := 3) (j' := 4) rfl rfl) $$ [HK3 HS3_1 HF3 HOW]
  · isplitr; · iexact HR
    isplitl [HK3]; · iexact HK3
    isplitl [HS3_1]; · iexact HS3_1
    isplitl [HF3]; · iexact HF3
    iexact HOW
  iintro ⟨HK3, HOW⟩
  iapply (wp_loadW (I c) c 0 (rot 2 c) (o5_1 c)) $$ HD3; iintro HD3
  iapply (wp_loadW (I c) c 1 (rot 2 c) (o6_1 c)) $$ HD3; iintro HD3
  iapply (wp_loadW (I c) c 2 (rot 2 c) (o7_1 c)) $$ HD3; iintro HD3
  rw [wp_ret]; imodintro; iapply Hk
  isplitl [HD3]; · iexact HD3
  isplitl [HK3]; · iexact HK3
  iexact HOW

/-- Part 11: the next effects in program order. -/
theorem part11_ok (I : Dev nD → DevIn F) (c : Dev nD) {Q : (Σ' (v362 : FVec F S512x256 .f32) (v387 : FVec F S512x256 .f32), FVec F S512x256 .f32) → sProp 𝕄} :
    (stgd c cc0_stg3_0 (I c).fw : sProp 𝕄)
      ⊢ iprop(((stgd c cc0_stg3_0 (I c).fw) -∗ Q ⟨(k0_pay28 (xw3 (I c) c) (k0_pay27 (xw0 (I c) c) (xw1 (I c) c) (xw2 (I c) c) (ldW (I c) 0 (rot 2 c)) (ldW (I c) 1 (rot 2 c)) (ldW (I c) 2 (rot 2 c))) (ldW (I c) 3 (rot 2 c))), (k0_pay29 (xw0 (I c) c) (xw1 (I c) c) (xw2 (I c) c) (ldW (I c) 0 (rot 2 c)) (ldW (I c) 1 (rot 2 c)) (ldW (I c) 2 (rot 2 c))), (k0_pay30 (xw3 (I c) c) (ldW (I c) 3 (rot 2 c)))⟩)
          -∗ wp frame (wpE (defs₀ (F := F)) 𝒱₀ (c : Thread nD τ) none) Set.univ
      (k0_part11 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c (myW c) (xw0 (I c) c) (xw1 (I c) c) (xw2 (I c) c) (xw3 (I c) c) (k0_pay27 (xw0 (I c) c) (xw1 (I c) c) (xw2 (I c) c) (ldW (I c) 0 (rot 2 c)) (ldW (I c) 1 (rot 2 c)) (ldW (I c) 2 (rot 2 c))) (Scalar.muli (Scalar.remsi (Scalar.subi (Scalar.subi (Scalar.addi (myW c) 4#32) 1#32) 1#32) 4#32) 256#32)) Q) := by
  simp only [k0_part11_eq_skeleton]; unfold k0_part11_skel
  simp only [Prog.lift, Prog.bind_op, Prog.bind_ret, Prog.pure_eq_ret]
  iintro HD3 Hk
  iapply (wp_loadW (I c) c 3 (rot 2 c) (o8_1 c)) $$ HD3; iintro HD3
  iapply (wp_loadW (I c) c 0 (rot 2 c) (o9_1 c)) $$ HD3; iintro HD3
  iapply (wp_loadW (I c) c 1 (rot 2 c) (o10_1 c)) $$ HD3; iintro HD3
  iapply (wp_loadW (I c) c 2 (rot 2 c) (o11_1 c)) $$ HD3; iintro HD3
  iapply (wp_loadW (I c) c 3 (rot 2 c) (o12_1 c)) $$ HD3; iintro HD3
  rw [wp_ret]; imodintro; iapply Hk
  iexact HD3

/-- Part 12: the next effects in program order. -/
theorem part12_ok (I : Dev nD → DevIn F) (K : KI → ℕ) (c : Dev nD) (v7 : BitVec 32) {Q : (Σ' (v394 : FVec F S512x256 .f32), FVec F S512x256 .f32) → sProp 𝕄} :
    iprop(records I K ∗ levAts L lv ∗ kit1 2 c ∗ kit1 3 c ∗ ow c (due c 4))
      ⊢ iprop(((slot c AS1 (Y I 2 c) ∗ slot c AR1 (Y I 2 (prv c)) ∗ slot c BS1 (Y I 3 c) ∗ kit3 2 c ∗ kit2 3 c ∗ ow c (due c 4)) -∗ Q ⟨(k0_pay31 (k0_pay29 (xw0 (I c) c) (xw1 (I c) c) (xw2 (I c) c) (ldW (I c) 0 (rot 2 c)) (ldW (I c) 1 (rot 2 c)) (ldW (I c) 2 (rot 2 c))) (k0_pay30 (xw3 (I c) c) (ldW (I c) 3 (rot 2 c)))), (k0_pay32 (k0_pay28 (xw3 (I c) c) (k0_pay27 (xw0 (I c) c) (xw1 (I c) c) (xw2 (I c) c) (ldW (I c) 0 (rot 2 c)) (ldW (I c) 1 (rot 2 c)) (ldW (I c) 2 (rot 2 c))) (ldW (I c) 3 (rot 2 c))) (Y I 2 (prv c)))⟩)
          -∗ wp frame (wpE (defs₀ (F := F)) 𝒱₀ (c : Thread nD τ) none) Set.univ
      (k0_part12 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 v7 (k0_pay28 (xw3 (I c) c) (k0_pay27 (xw0 (I c) c) (xw1 (I c) c) (xw2 (I c) c) (ldW (I c) 0 (rot 2 c)) (ldW (I c) 1 (rot 2 c)) (ldW (I c) 2 (rot 2 c))) (ldW (I c) 3 (rot 2 c))) (k0_pay29 (xw0 (I c) c) (xw1 (I c) c) (xw2 (I c) c) (ldW (I c) 0 (rot 2 c)) (ldW (I c) 1 (rot 2 c)) (ldW (I c) 2 (rot 2 c))) (k0_pay30 (xw3 (I c) c) (ldW (I c) 3 (rot 2 c)))) Q) := by
  simp only [k0_part12_eq_skeleton]; unfold k0_part12_skel
  simp only [Prog.lift, Prog.bind_op, Prog.bind_ret, Prog.pure_eq_ret]
  iintro ⟨#HR, #HL, HK2, HK3, HOW⟩ Hk
  iapply (wp_waitS I K 2 c (src := flat AR1) (dst := flat AS1) (credit_src 2) (qs := ((cc0_scratch6.slice (Rect.unit (s := S3) ![1] S1.size inb_S3_S1_1)).squeeze S_ squeezes_S1_S_).sem) rfl 4) $$ [HK2 HOW]
  · isplitr; · iexact HR
    isplitr; · iexact HL
    isplitl [HK2]; · iexact HK2
    iexact HOW
  iintro ⟨HK2, HS0_1, HOW⟩
  ihave HS0_1 := (Entails.of_eq (show slot c (srcS 2) (Y I 2 c) = slot c AS1 (Y I 2 c) from rfl)) $$ HS0_1
  iapply (wp_waitR I K 2 c (src := flat AS1) (dst := flat AR1) (credit_dst 2) (qr := ((cc0_scratch7.slice (Rect.unit (s := S3) ![1] S1.size inb_S3_S1_1)).squeeze S_ squeezes_S1_S_).sem) rfl 4 (by decide) (c' := prv c) rfl) $$ [HK2 HOW]
  · isplitr; · iexact HR
    isplitr; · iexact HL
    isplitl [HK2]; · iexact HK2
    iexact HOW
  iintro ⟨HK2, HS1_1, HOW⟩
  ihave HS1_1 := (Entails.of_eq (show slot c (dstS 2) (Y I 2 (prv c)) = slot c AR1 (Y I 2 (prv c)) from rfl)) $$ HS1_1
  iapply (wp_load_slot c (Memref.whole cc0_scratch1) (Rect.unit (s := S3x512x256) ![1, 0, 0] S1x512x256.size inb_S3x512x256_S1x512x256_1_0_0) (fun _ => rfl) (Y I 2 (prv c))) $$ HS1_1; iintro HS1_1
  iapply (wp_waitS I K 3 c (src := flat BR1) (dst := flat BS1) (credit_src 3) (qs := ((cc0_scratch10.slice (Rect.unit (s := S3) ![1] S1.size inb_S3_S1_1)).squeeze S_ squeezes_S1_S_).sem) rfl 4) $$ [HK3 HOW]
  · isplitr; · iexact HR
    isplitr; · iexact HL
    isplitl [HK3]; · iexact HK3
    iexact HOW
  iintro ⟨HK3, HS3_1, HOW⟩
  ihave HS3_1 := (Entails.of_eq (show slot c (srcS 3) (Y I 3 c) = slot c BS1 (Y I 3 c) from rfl)) $$ HS3_1
  rw [wp_ret]; imodintro; iapply Hk
  isplitl [HS0_1]; · iexact HS0_1
  isplitl [HS1_1]; · iexact HS1_1
  isplitl [HS3_1]; · iexact HS3_1
  isplitl [HK2]; · iexact HK2
  isplitl [HK3]; · iexact HK3
  iexact HOW

/-- Part 13: the next effects in program order. -/
theorem part13_ok (I : Dev nD → DevIn F) (K : KI → ℕ) (c : Dev nD) (v5 : BitVec 32) (v7 : BitVec 32) {Q : (PUnit) → sProp 𝕄} :
    iprop(records I K ∗ levAts L lv ∗ anyS c AS2 ∗ anyS c BS2 ∗ kit2 3 c ∗ ow c (due c 4))
      ⊢ iprop(((slot c AS2 (Y I 4 c) ∗ slot c BS2 (Y I 5 c) ∗ slot c BR1 (Y I 3 (nxt c)) ∗ kit3 3 c ∗ ow c (due c 4)) -∗ Q ⟨⟩)
          -∗ wp frame (wpE (defs₀ (F := F)) 𝒱₀ (c : Thread nD τ) none) Set.univ
      (k0_part13 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 v5 v7 (k0_pay31 (k0_pay29 (xw0 (I c) c) (xw1 (I c) c) (xw2 (I c) c) (ldW (I c) 0 (rot 2 c)) (ldW (I c) 1 (rot 2 c)) (ldW (I c) 2 (rot 2 c))) (k0_pay30 (xw3 (I c) c) (ldW (I c) 3 (rot 2 c)))) (k0_pay32 (k0_pay28 (xw3 (I c) c) (k0_pay27 (xw0 (I c) c) (xw1 (I c) c) (xw2 (I c) c) (ldW (I c) 0 (rot 2 c)) (ldW (I c) 1 (rot 2 c)) (ldW (I c) 2 (rot 2 c))) (ldW (I c) 3 (rot 2 c))) (Y I 2 (prv c)))) Q) := by
  simp only [k0_part13_eq_skeleton]; unfold k0_part13_skel
  simp only [Prog.lift, Prog.bind_op, Prog.bind_ret, Prog.pure_eq_ret]
  iintro ⟨#HR, #HL, HS0_2, HS3_2, HK3, HOW⟩ Hk
  iapply (wp_waitR I K 3 c (src := flat BS1) (dst := flat BR1) (credit_dst 3) (qr := ((cc0_scratch11.slice (Rect.unit (s := S3) ![1] S1.size inb_S3_S1_1)).squeeze S_ squeezes_S1_S_).sem) rfl 4 (by decide) (c' := nxt c) rfl) $$ [HK3 HOW]
  · isplitr; · iexact HR
    isplitr; · iexact HL
    isplitl [HK3]; · iexact HK3
    iexact HOW
  iintro ⟨HK3, HS4_1, HOW⟩
  ihave HS4_1 := (Entails.of_eq (show slot c (dstS 3) (Y I 3 (nxt c)) = slot c BR1 (Y I 3 (nxt c)) from rfl)) $$ HS4_1
  iapply (wp_load_slot c (Memref.whole cc0_scratch4) (Rect.unit (s := S3x512x256) ![1, 0, 0] S1x512x256.size inb_S3x512x256_S1x512x256_1_0_0) (fun _ => rfl) (Y I 3 (nxt c))) $$ HS4_1; iintro HS4_1
  icases HS0_2 with ⟨%u5, HS0_2⟩
  iapply (wp_load_slot c (Memref.whole cc0_scratch0) (Rect.unit (s := S3x512x256) ![2, 0, 0] S1x512x256.size inb_S3x512x256_S1x512x256_2_0_0) (fun _ => rfl) u5) $$ HS0_2; iintro HS0_2
  iapply (wp_store_slot c (Memref.whole cc0_scratch0) (Rect.unit (s := S3x512x256) ![2, 0, 0] S1x512x256.size inb_S3x512x256_S1x512x256_2_0_0) (fun _ => rfl) u5 (k0_pay33 (k0_pay32 (k0_pay28 (xw3 (I c) c) (k0_pay27 (xw0 (I c) c) (xw1 (I c) c) (xw2 (I c) c) (ldW (I c) 0 (rot 2 c)) (ldW (I c) 1 (rot 2 c)) (ldW (I c) 2 (rot 2 c))) (ldW (I c) 3 (rot 2 c))) (Y I 2 (prv c))))) $$ HS0_2; iintro HS0_2
  ihave HS0_2 := (Entails.of_eq (congrArg (slot c AS2) (show (k0_pay33 (k0_pay32 (k0_pay28 (xw3 (I c) c) (k0_pay27 (xw0 (I c) c) (xw1 (I c) c) (xw2 (I c) c) (ldW (I c) 0 (rot 2 c)) (ldW (I c) 1 (rot 2 c)) (ldW (I c) 2 (rot 2 c))) (ldW (I c) 3 (rot 2 c))) (Y I 2 (prv c)))) = Y I 4 c from rfl))) $$ HS0_2
  icases HS3_2 with ⟨%u6, HS3_2⟩
  iapply (wp_load_slot c (Memref.whole cc0_scratch3) (Rect.unit (s := S3x512x256) ![2, 0, 0] S1x512x256.size inb_S3x512x256_S1x512x256_2_0_0) (fun _ => rfl) u6) $$ HS3_2; iintro HS3_2
  iapply (wp_store_slot c (Memref.whole cc0_scratch3) (Rect.unit (s := S3x512x256) ![2, 0, 0] S1x512x256.size inb_S3x512x256_S1x512x256_2_0_0) (fun _ => rfl) u6 (k0_pay34 (k0_pay31 (k0_pay29 (xw0 (I c) c) (xw1 (I c) c) (xw2 (I c) c) (ldW (I c) 0 (rot 2 c)) (ldW (I c) 1 (rot 2 c)) (ldW (I c) 2 (rot 2 c))) (k0_pay30 (xw3 (I c) c) (ldW (I c) 3 (rot 2 c)))) (Y I 3 (nxt c)))) $$ HS3_2; iintro HS3_2
  ihave HS3_2 := (Entails.of_eq (congrArg (slot c BS2) (show (k0_pay34 (k0_pay31 (k0_pay29 (xw0 (I c) c) (xw1 (I c) c) (xw2 (I c) c) (ldW (I c) 0 (rot 2 c)) (ldW (I c) 1 (rot 2 c)) (ldW (I c) 2 (rot 2 c))) (k0_pay30 (xw3 (I c) c) (ldW (I c) 3 (rot 2 c)))) (Y I 3 (nxt c))) = Y I 5 c from rfl))) $$ HS3_2
  rw [wp_ret]; imodintro; iapply Hk
  isplitl [HS0_2]; · iexact HS0_2
  isplitl [HS3_2]; · iexact HS3_2
  isplitl [HS4_1]; · iexact HS4_1
  isplitl [HK3]; · iexact HK3
  iexact HOW

/-- Part 14: the next effects in program order. -/
theorem part14_ok (I : Dev nD → DevIn F) (K : KI → ℕ) (c : Dev nD) (v5 : BitVec 32) {Q : (Σ' (v462 : BitVec 32), FVec F S512x256 .f32) → sProp 𝕄} :
    iprop(records I K ∗ stgd c cc0_stg3_0 (I c).fw ∗ slot c AS2 (Y I 4 c) ∗ slot c BS2 (Y I 5 c) ∗ kit0 4 c ∗ kit0 5 c ∗ free 4 (peer 4 c) ∗ free 5 (peer 5 c) ∗ ow c (due c 4))
      ⊢ iprop(((stgd c cc0_stg3_0 (I c).fw ∗ kit1 4 c ∗ kit1 5 c ∗ ow c (due c 6)) -∗ Q ⟨(Scalar.remsi (Scalar.subi (Scalar.subi (Scalar.addi (myW c) 4#32) 1#32) 2#32) 4#32), (k0_pay35 (xw0 (I c) c) (xw1 (I c) c) (ldW (I c) 0 (rot 1 c)) (ldW (I c) 1 (rot 1 c)))⟩)
          -∗ wp frame (wpE (defs₀ (F := F)) 𝒱₀ (c : Thread nD τ) none) Set.univ
      (k0_part14 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c (myW c) v5 (xw0 (I c) c) (xw1 (I c) c)) Q) := by
  simp only [k0_part14_eq_skeleton]; unfold k0_part14_skel
  simp only [Prog.lift, Prog.bind_op, Prog.bind_ret, Prog.pure_eq_ret]
  iintro ⟨#HR, HD3, HS0_2, HS3_2, HK4, HK5, HF4, HF5, HOW⟩ Hk
  iapply (wp_xfer I K 4 c (n := ⟨k0_dev7 c, k0_dev7_lt c⟩) (Fin.ext (k0_dev7_eq c)) (src := flat AS2) (dst := flat AR2) rfl rfl (qs := ((cc0_scratch6.slice (Rect.unit (s := S3) ![2] S1.size inb_S3_S1_2)).squeeze S_ squeezes_S1_S_).sem) (qr := ((cc0_scratch7.slice (Rect.unit (s := S3) ![2] S1.size inb_S3_S1_2)).squeeze S_ squeezes_S1_S_).sem) rfl rfl (j := 4) (j' := 5) rfl rfl) $$ [HK4 HS0_2 HF4 HOW]
  · isplitr; · iexact HR
    isplitl [HK4]; · iexact HK4
    isplitl [HS0_2]; · iexact HS0_2
    isplitl [HF4]; · iexact HF4
    iexact HOW
  iintro ⟨HK4, HOW⟩
  iapply (wp_xfer I K 5 c (n := ⟨k0_dev8 c, k0_dev8_lt c⟩) (Fin.ext (k0_dev8_eq c)) (src := flat BS2) (dst := flat BR2) rfl rfl (qs := ((cc0_scratch10.slice (Rect.unit (s := S3) ![2] S1.size inb_S3_S1_2)).squeeze S_ squeezes_S1_S_).sem) (qr := ((cc0_scratch11.slice (Rect.unit (s := S3) ![2] S1.size inb_S3_S1_2)).squeeze S_ squeezes_S1_S_).sem) rfl rfl (j := 5) (j' := 6) rfl rfl) $$ [HK5 HS3_2 HF5 HOW]
  · isplitr; · iexact HR
    isplitl [HK5]; · iexact HK5
    isplitl [HS3_2]; · iexact HS3_2
    isplitl [HF5]; · iexact HF5
    iexact HOW
  iintro ⟨HK5, HOW⟩
  iapply (wp_loadW (I c) c 0 (rot 1 c) (o5_2 c)) $$ HD3; iintro HD3
  iapply (wp_loadW (I c) c 1 (rot 1 c) (o6_2 c)) $$ HD3; iintro HD3
  rw [wp_ret]; imodintro; iapply Hk
  isplitl [HD3]; · iexact HD3
  isplitl [HK4]; · iexact HK4
  isplitl [HK5]; · iexact HK5
  iexact HOW

/-- Part 15: the next effects in program order. -/
theorem part15_ok (I : Dev nD → DevIn F) (c : Dev nD) {Q : (Σ' (v491 : FVec F S512x256 .f32) (v516 : FVec F S512x256 .f32), BitVec 32) → sProp 𝕄} :
    (stgd c cc0_stg3_0 (I c).fw : sProp 𝕄)
      ⊢ iprop(((stgd c cc0_stg3_0 (I c).fw) -∗ Q ⟨(k0_pay36 (xw2 (I c) c) (xw3 (I c) c) (k0_pay35 (xw0 (I c) c) (xw1 (I c) c) (ldW (I c) 0 (rot 1 c)) (ldW (I c) 1 (rot 1 c))) (ldW (I c) 2 (rot 1 c)) (ldW (I c) 3 (rot 1 c))), (k0_pay37 (xw0 (I c) c) (xw1 (I c) c) (xw2 (I c) c) (ldW (I c) 0 (rot 3 c)) (ldW (I c) 1 (rot 3 c)) (ldW (I c) 2 (rot 3 c))), (Scalar.muli (Scalar.remsi (Scalar.addi (Scalar.addi (myW c) 1#32) 2#32) 4#32) 256#32)⟩)
          -∗ wp frame (wpE (defs₀ (F := F)) 𝒱₀ (c : Thread nD τ) none) Set.univ
      (k0_part15 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c (myW c) (xw0 (I c) c) (xw1 (I c) c) (xw2 (I c) c) (xw3 (I c) c) (Scalar.remsi (Scalar.subi (Scalar.subi (Scalar.addi (myW c) 4#32) 1#32) 2#32) 4#32) (k0_pay35 (xw0 (I c) c) (xw1 (I c) c) (ldW (I c) 0 (rot 1 c)) (ldW (I c) 1 (rot 1 c)))) Q) := by
  simp only [k0_part15_eq_skeleton]; unfold k0_part15_skel
  simp only [Prog.lift, Prog.bind_op, Prog.bind_ret, Prog.pure_eq_ret]
  iintro HD3 Hk
  iapply (wp_loadW (I c) c 2 (rot 1 c) (o7_2 c)) $$ HD3; iintro HD3
  iapply (wp_loadW (I c) c 3 (rot 1 c) (o8_2 c)) $$ HD3; iintro HD3
  iapply (wp_loadW (I c) c 0 (rot 3 c) (o9_2 c)) $$ HD3; iintro HD3
  iapply (wp_loadW (I c) c 1 (rot 3 c) (o10_2 c)) $$ HD3; iintro HD3
  iapply (wp_loadW (I c) c 2 (rot 3 c) (o11_2 c)) $$ HD3; iintro HD3
  rw [wp_ret]; imodintro; iapply Hk
  iexact HD3

/-- Part 16: the next effects in program order. -/
theorem part16_ok (I : Dev nD → DevIn F) (K : KI → ℕ) (c : Dev nD) (v7 : BitVec 32) {Q : (Σ' (v523 : FVec F S512x256 .f32), FVec F S512x256 .f32) → sProp 𝕄} :
    iprop(records I K ∗ levAts L lv ∗ stgd c cc0_stg3_0 (I c).fw ∗ kit1 4 c ∗ ow c (due c 6))
      ⊢ iprop(((stgd c cc0_stg3_0 (I c).fw ∗ slot c AS2 (Y I 4 c) ∗ slot c AR2 (Y I 4 (prv c)) ∗ kit3 4 c ∗ ow c (due c 6)) -∗ Q ⟨(k0_pay38 (xw3 (I c) c) (k0_pay37 (xw0 (I c) c) (xw1 (I c) c) (xw2 (I c) c) (ldW (I c) 0 (rot 3 c)) (ldW (I c) 1 (rot 3 c)) (ldW (I c) 2 (rot 3 c))) (ldW (I c) 3 (rot 3 c))), (k0_pay39 (k0_pay36 (xw2 (I c) c) (xw3 (I c) c) (k0_pay35 (xw0 (I c) c) (xw1 (I c) c) (ldW (I c) 0 (rot 1 c)) (ldW (I c) 1 (rot 1 c))) (ldW (I c) 2 (rot 1 c)) (ldW (I c) 3 (rot 1 c))) (Y I 4 (prv c)))⟩)
          -∗ wp frame (wpE (defs₀ (F := F)) 𝒱₀ (c : Thread nD τ) none) Set.univ
      (k0_part16 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c v7 (xw3 (I c) c) (k0_pay36 (xw2 (I c) c) (xw3 (I c) c) (k0_pay35 (xw0 (I c) c) (xw1 (I c) c) (ldW (I c) 0 (rot 1 c)) (ldW (I c) 1 (rot 1 c))) (ldW (I c) 2 (rot 1 c)) (ldW (I c) 3 (rot 1 c))) (k0_pay37 (xw0 (I c) c) (xw1 (I c) c) (xw2 (I c) c) (ldW (I c) 0 (rot 3 c)) (ldW (I c) 1 (rot 3 c)) (ldW (I c) 2 (rot 3 c))) (Scalar.muli (Scalar.remsi (Scalar.addi (Scalar.addi (myW c) 1#32) 2#32) 4#32) 256#32)) Q) := by
  simp only [k0_part16_eq_skeleton]; unfold k0_part16_skel
  simp only [Prog.lift, Prog.bind_op, Prog.bind_ret, Prog.pure_eq_ret]
  iintro ⟨#HR, #HL, HD3, HK4, HOW⟩ Hk
  iapply (wp_loadW (I c) c 3 (rot 3 c) (o12_2 c)) $$ HD3; iintro HD3
  iapply (wp_waitS I K 4 c (src := flat AR2) (dst := flat AS2) (credit_src 4) (qs := ((cc0_scratch6.slice (Rect.unit (s := S3) ![2] S1.size inb_S3_S1_2)).squeeze S_ squeezes_S1_S_).sem) rfl 6) $$ [HK4 HOW]
  · isplitr; · iexact HR
    isplitr; · iexact HL
    isplitl [HK4]; · iexact HK4
    iexact HOW
  iintro ⟨HK4, HS0_2, HOW⟩
  ihave HS0_2 := (Entails.of_eq (show slot c (srcS 4) (Y I 4 c) = slot c AS2 (Y I 4 c) from rfl)) $$ HS0_2
  iapply (wp_waitR I K 4 c (src := flat AS2) (dst := flat AR2) (credit_dst 4) (qr := ((cc0_scratch7.slice (Rect.unit (s := S3) ![2] S1.size inb_S3_S1_2)).squeeze S_ squeezes_S1_S_).sem) rfl 6 (by decide) (c' := prv c) rfl) $$ [HK4 HOW]
  · isplitr; · iexact HR
    isplitr; · iexact HL
    isplitl [HK4]; · iexact HK4
    iexact HOW
  iintro ⟨HK4, HS1_2, HOW⟩
  ihave HS1_2 := (Entails.of_eq (show slot c (dstS 4) (Y I 4 (prv c)) = slot c AR2 (Y I 4 (prv c)) from rfl)) $$ HS1_2
  iapply (wp_load_slot c (Memref.whole cc0_scratch1) (Rect.unit (s := S3x512x256) ![2, 0, 0] S1x512x256.size inb_S3x512x256_S1x512x256_2_0_0) (fun _ => rfl) (Y I 4 (prv c))) $$ HS1_2; iintro HS1_2
  rw [wp_ret]; imodintro; iapply Hk
  isplitl [HD3]; · iexact HD3
  isplitl [HS0_2]; · iexact HS0_2
  isplitl [HS1_2]; · iexact HS1_2
  isplitl [HK4]; · iexact HK4
  iexact HOW

/-- Part 17: the next effects in program order. -/
theorem part17_ok (I : Dev nD → DevIn F) (K : KI → ℕ) (c : Dev nD) (v5 : BitVec 32) {Q : (Σ' (v559 : FVec F S512x256 .f32) (v561 : BitVec 32) (v564 : BitVec 32), BitVec 32) → sProp 𝕄} :
    iprop(records I K ∗ levAts L lv ∗ anyS c AG0 ∗ anyS c BG0 ∗ kit1 5 c ∗ ow c (due c 6))
      ⊢ iprop(((slot c AG0 (Y I 6 c) ∗ slot c BS2 (Y I 5 c) ∗ slot c BR2 (Y I 5 (nxt c)) ∗ slot c BG0 (Y I 7 c) ∗ kit3 5 c ∗ ow c (due c 6)) -∗ Q ⟨(k0_pay40 (k0_pay38 (xw3 (I c) c) (k0_pay37 (xw0 (I c) c) (xw1 (I c) c) (xw2 (I c) c) (ldW (I c) 0 (rot 3 c)) (ldW (I c) 1 (rot 3 c)) (ldW (I c) 2 (rot 3 c))) (ldW (I c) 3 (rot 3 c))) (Y I 5 (nxt c))), (Scalar.remsi (Scalar.addi (myW c) 1#32) 4#32), (Scalar.remsi (Scalar.subi (Scalar.addi (myW c) 4#32) 1#32) 4#32), 256#32⟩)
          -∗ wp frame (wpE (defs₀ (F := F)) 𝒱₀ (c : Thread nD τ) none) Set.univ
      (k0_part17 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 (myW c) v5 (k0_pay38 (xw3 (I c) c) (k0_pay37 (xw0 (I c) c) (xw1 (I c) c) (xw2 (I c) c) (ldW (I c) 0 (rot 3 c)) (ldW (I c) 1 (rot 3 c)) (ldW (I c) 2 (rot 3 c))) (ldW (I c) 3 (rot 3 c))) (k0_pay39 (k0_pay36 (xw2 (I c) c) (xw3 (I c) c) (k0_pay35 (xw0 (I c) c) (xw1 (I c) c) (ldW (I c) 0 (rot 1 c)) (ldW (I c) 1 (rot 1 c))) (ldW (I c) 2 (rot 1 c)) (ldW (I c) 3 (rot 1 c))) (Y I 4 (prv c)))) Q) := by
  simp only [k0_part17_eq_skeleton]; unfold k0_part17_skel
  simp only [Prog.lift, Prog.bind_op, Prog.bind_ret, Prog.pure_eq_ret]
  iintro ⟨#HR, #HL, HS2_0, HS5_0, HK5, HOW⟩ Hk
  iapply (wp_waitS I K 5 c (src := flat BR2) (dst := flat BS2) (credit_src 5) (qs := ((cc0_scratch10.slice (Rect.unit (s := S3) ![2] S1.size inb_S3_S1_2)).squeeze S_ squeezes_S1_S_).sem) rfl 6) $$ [HK5 HOW]
  · isplitr; · iexact HR
    isplitr; · iexact HL
    isplitl [HK5]; · iexact HK5
    iexact HOW
  iintro ⟨HK5, HS3_2, HOW⟩
  ihave HS3_2 := (Entails.of_eq (show slot c (srcS 5) (Y I 5 c) = slot c BS2 (Y I 5 c) from rfl)) $$ HS3_2
  iapply (wp_waitR I K 5 c (src := flat BS2) (dst := flat BR2) (credit_dst 5) (qr := ((cc0_scratch11.slice (Rect.unit (s := S3) ![2] S1.size inb_S3_S1_2)).squeeze S_ squeezes_S1_S_).sem) rfl 6 (by decide) (c' := nxt c) rfl) $$ [HK5 HOW]
  · isplitr; · iexact HR
    isplitr; · iexact HL
    isplitl [HK5]; · iexact HK5
    iexact HOW
  iintro ⟨HK5, HS4_2, HOW⟩
  ihave HS4_2 := (Entails.of_eq (show slot c (dstS 5) (Y I 5 (nxt c)) = slot c BR2 (Y I 5 (nxt c)) from rfl)) $$ HS4_2
  iapply (wp_load_slot c (Memref.whole cc0_scratch4) (Rect.unit (s := S3x512x256) ![2, 0, 0] S1x512x256.size inb_S3x512x256_S1x512x256_2_0_0) (fun _ => rfl) (Y I 5 (nxt c))) $$ HS4_2; iintro HS4_2
  icases HS2_0 with ⟨%u7, HS2_0⟩
  iapply (wp_load_slot c (Memref.whole cc0_scratch2) (Rect.unit (s := S4x512x256) ![0, 0, 0] S1x512x256.size inb_S4x512x256_S1x512x256_0_0_0) (fun _ => rfl) u7) $$ HS2_0; iintro HS2_0
  iapply (wp_store_slot c (Memref.whole cc0_scratch2) (Rect.unit (s := S4x512x256) ![0, 0, 0] S1x512x256.size inb_S4x512x256_S1x512x256_0_0_0) (fun _ => rfl) u7 (k0_pay41 (k0_pay39 (k0_pay36 (xw2 (I c) c) (xw3 (I c) c) (k0_pay35 (xw0 (I c) c) (xw1 (I c) c) (ldW (I c) 0 (rot 1 c)) (ldW (I c) 1 (rot 1 c))) (ldW (I c) 2 (rot 1 c)) (ldW (I c) 3 (rot 1 c))) (Y I 4 (prv c))))) $$ HS2_0; iintro HS2_0
  ihave HS2_0 := (Entails.of_eq (congrArg (slot c AG0) (show (k0_pay41 (k0_pay39 (k0_pay36 (xw2 (I c) c) (xw3 (I c) c) (k0_pay35 (xw0 (I c) c) (xw1 (I c) c) (ldW (I c) 0 (rot 1 c)) (ldW (I c) 1 (rot 1 c))) (ldW (I c) 2 (rot 1 c)) (ldW (I c) 3 (rot 1 c))) (Y I 4 (prv c)))) = Y I 6 c from rfl))) $$ HS2_0
  icases HS5_0 with ⟨%u8, HS5_0⟩
  iapply (wp_load_slot c (Memref.whole cc0_scratch5) (Rect.unit (s := S4x512x256) ![0, 0, 0] S1x512x256.size inb_S4x512x256_S1x512x256_0_0_0) (fun _ => rfl) u8) $$ HS5_0; iintro HS5_0
  iapply (wp_store_slot c (Memref.whole cc0_scratch5) (Rect.unit (s := S4x512x256) ![0, 0, 0] S1x512x256.size inb_S4x512x256_S1x512x256_0_0_0) (fun _ => rfl) u8 (k0_pay42 (k0_pay38 (xw3 (I c) c) (k0_pay37 (xw0 (I c) c) (xw1 (I c) c) (xw2 (I c) c) (ldW (I c) 0 (rot 3 c)) (ldW (I c) 1 (rot 3 c)) (ldW (I c) 2 (rot 3 c))) (ldW (I c) 3 (rot 3 c))) (Y I 5 (nxt c)))) $$ HS5_0; iintro HS5_0
  ihave HS5_0 := (Entails.of_eq (congrArg (slot c BG0) (show (k0_pay42 (k0_pay38 (xw3 (I c) c) (k0_pay37 (xw0 (I c) c) (xw1 (I c) c) (xw2 (I c) c) (ldW (I c) 0 (rot 3 c)) (ldW (I c) 1 (rot 3 c)) (ldW (I c) 2 (rot 3 c))) (ldW (I c) 3 (rot 3 c))) (Y I 5 (nxt c))) = Y I 7 c from rfl))) $$ HS5_0
  rw [wp_ret]; imodintro; iapply Hk
  isplitl [HS2_0]; · iexact HS2_0
  isplitl [HS3_2]; · iexact HS3_2
  isplitl [HS4_2]; · iexact HS4_2
  isplitl [HS5_0]; · iexact HS5_0
  isplitl [HK5]; · iexact HK5
  iexact HOW

end Cert.KernelIdeal.Moe

end
-- ==== Proof.Ideal.Parts3.lean ====
module

public import proofs.«01_k».proof.Proof.Ideal.Slots

@[expose] public section

set_option maxRecDepth 16384

noncomputable section

/-! # The body, part by part -/

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Part 18: the next effects in program order. -/
theorem part18_ok (I : Dev nD → DevIn F) (K : KI → ℕ) (c : Dev nD) (v5 : BitVec 32) (v7 : BitVec 32) {Q : (PUnit) → sProp 𝕄} (f : Buf (Elt F) ((c : Thread nD τ).loc cc0_stg4_0)) :
    iprop(records I K ∗ stgd c cc0_stg4_0 f ∗ slot c AG0 (Y I 6 c) ∗ slot c BG0 (Y I 7 c) ∗ kit0 6 c ∗ kit0 7 c ∗ free 6 (peer 6 c) ∗ free 7 (peer 7 c) ∗ ow c (due c 6))
      ⊢ iprop(((stgd c cc0_stg4_0 (stO (stO f 0 (rot 1 c) (accA I c)) 1 (rot 3 c) (accB I c)) ∗ kit1 6 c ∗ kit1 7 c ∗ ow c (due c 8)) -∗ Q ⟨⟩)
          -∗ wp frame (wpE (defs₀ (F := F)) 𝒱₀ (c : Thread nD τ) none) Set.univ
      (k0_part18 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c v5 v7 (k0_pay39 (k0_pay36 (xw2 (I c) c) (xw3 (I c) c) (k0_pay35 (xw0 (I c) c) (xw1 (I c) c) (ldW (I c) 0 (rot 1 c)) (ldW (I c) 1 (rot 1 c))) (ldW (I c) 2 (rot 1 c)) (ldW (I c) 3 (rot 1 c))) (Y I 4 (prv c))) (k0_pay40 (k0_pay38 (xw3 (I c) c) (k0_pay37 (xw0 (I c) c) (xw1 (I c) c) (xw2 (I c) c) (ldW (I c) 0 (rot 3 c)) (ldW (I c) 1 (rot 3 c)) (ldW (I c) 2 (rot 3 c))) (ldW (I c) 3 (rot 3 c))) (Y I 5 (nxt c))) (Scalar.remsi (Scalar.addi (myW c) 1#32) 4#32) (Scalar.remsi (Scalar.subi (Scalar.addi (myW c) 4#32) 1#32) 4#32) 256#32) Q) := by
  simp only [k0_part18_eq_skeleton]; unfold k0_part18_skel
  simp only [Prog.lift, Prog.bind_op, Prog.bind_ret, Prog.pure_eq_ret]
  iintro ⟨#HR, HOUT, HS2_0, HS5_0, HK6, HK7, HF6, HF7, HOW⟩ Hk
  iapply (wp_load 𝒱₀ (c : Thread nD τ) none Set.univ (m := Memref.whole cc0_stg4_0) (Finset.subset_univ _)) $$ HOUT; iintro HOUT
  iapply (wp_storeO c f 0 (rot 1 c) ((k0_pay39 (k0_pay36 (xw2 (I c) c) (xw3 (I c) c) (k0_pay35 (xw0 (I c) c) (xw1 (I c) c) (ldW (I c) 0 (rot 1 c)) (ldW (I c) 1 (rot 1 c))) (ldW (I c) 2 (rot 1 c)) (ldW (I c) 3 (rot 1 c))) (Y I 4 (prv c)))) (accA I c) (o13 c) rfl) $$ HOUT; iintro HOUT
  iapply (wp_load 𝒱₀ (c : Thread nD τ) none Set.univ (m := Memref.whole cc0_stg4_0) (Finset.subset_univ _)) $$ HOUT; iintro HOUT
  iapply (wp_storeO c (stO f 0 (rot 1 c) (accA I c)) 1 (rot 3 c) ((k0_pay40 (k0_pay38 (xw3 (I c) c) (k0_pay37 (xw0 (I c) c) (xw1 (I c) c) (xw2 (I c) c) (ldW (I c) 0 (rot 3 c)) (ldW (I c) 1 (rot 3 c)) (ldW (I c) 2 (rot 3 c))) (ldW (I c) 3 (rot 3 c))) (Y I 5 (nxt c)))) (accB I c) (o14 c) rfl) $$ HOUT; iintro HOUT
  iapply (wp_xfer I K 6 c (n := ⟨k0_dev9 c, k0_dev9_lt c⟩) (Fin.ext (k0_dev9_eq c)) (src := flat AG0) (dst := flat AG1) rfl rfl (qs := ((cc0_scratch8.slice (Rect.unit (s := S3) ![0] S1.size inb_S3_S1_0)).squeeze S_ squeezes_S1_S_).sem) (qr := ((cc0_scratch9.slice (Rect.unit (s := S3) ![0] S1.size inb_S3_S1_0)).squeeze S_ squeezes_S1_S_).sem) rfl rfl (j := 6) (j' := 7) rfl rfl) $$ [HK6 HS2_0 HF6 HOW]
  · isplitr; · iexact HR
    isplitl [HK6]; · iexact HK6
    isplitl [HS2_0]; · iexact HS2_0
    isplitl [HF6]; · iexact HF6
    iexact HOW
  iintro ⟨HK6, HOW⟩
  iapply (wp_xfer I K 7 c (n := ⟨k0_dev10 c, k0_dev10_lt c⟩) (Fin.ext (k0_dev10_eq c)) (src := flat BG0) (dst := flat BG1) rfl rfl (qs := ((cc0_scratch12.slice (Rect.unit (s := S3) ![0] S1.size inb_S3_S1_0)).squeeze S_ squeezes_S1_S_).sem) (qr := ((cc0_scratch13.slice (Rect.unit (s := S3) ![0] S1.size inb_S3_S1_0)).squeeze S_ squeezes_S1_S_).sem) rfl rfl (j := 7) (j' := 8) rfl rfl) $$ [HK7 HS5_0 HF7 HOW]
  · isplitr; · iexact HR
    isplitl [HK7]; · iexact HK7
    isplitl [HS5_0]; · iexact HS5_0
    isplitl [HF7]; · iexact HF7
    iexact HOW
  iintro ⟨HK7, HOW⟩
  rw [wp_ret]; imodintro; iapply Hk
  isplitl [HOUT]; · iexact HOUT
  isplitl [HK6]; · iexact HK6
  isplitl [HK7]; · iexact HK7
  iexact HOW

/-- Part 19: the next effects in program order. -/
theorem part19_ok (I : Dev nD → DevIn F) (K : KI → ℕ) (c : Dev nD) (v7 : BitVec 32) {Q : (PUnit) → sProp 𝕄} (f : Buf (Elt F) ((c : Thread nD τ).loc cc0_stg4_0)) :
    iprop(records I K ∗ levAts L lv ∗ stgd c cc0_stg4_0 f ∗ kit1 6 c ∗ ow c (due c 8))
      ⊢ iprop(((stgd c cc0_stg4_0 (stO f 0 c (unpack (Y I 6 (prv c)))) ∗ slot c AG0 (Y I 6 c) ∗ slot c AG1 (Y I 6 (prv c)) ∗ kit3 6 c ∗ ow c (due c 8)) -∗ Q ⟨⟩)
          -∗ wp frame (wpE (defs₀ (F := F)) 𝒱₀ (c : Thread nD τ) none) Set.univ
      (k0_part19 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c (myW c) v7) Q) := by
  simp only [k0_part19_eq_skeleton]; unfold k0_part19_skel
  simp only [Prog.lift, Prog.bind_op, Prog.bind_ret, Prog.pure_eq_ret]
  iintro ⟨#HR, #HL, HOUT, HK6, HOW⟩ Hk
  iapply (wp_waitS I K 6 c (src := flat AG1) (dst := flat AG0) (credit_src 6) (qs := ((cc0_scratch8.slice (Rect.unit (s := S3) ![0] S1.size inb_S3_S1_0)).squeeze S_ squeezes_S1_S_).sem) rfl 8) $$ [HK6 HOW]
  · isplitr; · iexact HR
    isplitr; · iexact HL
    isplitl [HK6]; · iexact HK6
    iexact HOW
  iintro ⟨HK6, HS2_0, HOW⟩
  ihave HS2_0 := (Entails.of_eq (show slot c (srcS 6) (Y I 6 c) = slot c AG0 (Y I 6 c) from rfl)) $$ HS2_0
  iapply (wp_waitR I K 6 c (src := flat AG0) (dst := flat AG1) (credit_dst 6) (qr := ((cc0_scratch9.slice (Rect.unit (s := S3) ![0] S1.size inb_S3_S1_0)).squeeze S_ squeezes_S1_S_).sem) rfl 8 (by decide) (c' := prv c) rfl) $$ [HK6 HOW]
  · isplitr; · iexact HR
    isplitr; · iexact HL
    isplitl [HK6]; · iexact HK6
    iexact HOW
  iintro ⟨HK6, HS2_1, HOW⟩
  ihave HS2_1 := (Entails.of_eq (show slot c (dstS 6) (Y I 6 (prv c)) = slot c AG1 (Y I 6 (prv c)) from rfl)) $$ HS2_1
  iapply (wp_load_slot c (Memref.whole cc0_scratch2) (Rect.unit (s := S4x512x256) ![1, 0, 0] S1x512x256.size inb_S4x512x256_S1x512x256_1_0_0) (fun _ => rfl) (Y I 6 (prv c))) $$ HS2_1; iintro HS2_1
  iapply (wp_load 𝒱₀ (c : Thread nD τ) none Set.univ (m := Memref.whole cc0_stg4_0) (Finset.subset_univ _)) $$ HOUT; iintro HOUT
  iapply (wp_storeO c f 0 c ((k0_pay43 (Y I 6 (prv c)))) (unpack (Y I 6 (prv c))) (o15_0 c) rfl) $$ HOUT; iintro HOUT
  rw [wp_ret]; imodintro; iapply Hk
  isplitl [HOUT]; · iexact HOUT
  isplitl [HS2_0]; · iexact HS2_0
  isplitl [HS2_1]; · iexact HS2_1
  isplitl [HK6]; · iexact HK6
  iexact HOW

/-- Part 20: the next effects in program order. -/
theorem part20_ok (I : Dev nD → DevIn F) (K : KI → ℕ) (c : Dev nD) (v5 : BitVec 32) (v7 : BitVec 32) {Q : (PUnit) → sProp 𝕄} (f : Buf (Elt F) ((c : Thread nD τ).loc cc0_stg4_0)) :
    iprop(records I K ∗ levAts L lv ∗ stgd c cc0_stg4_0 f ∗ slot c AG1 (Y I 6 (prv c)) ∗ kit1 7 c ∗ kit0 8 c ∗ free 8 (peer 8 c) ∗ ow c (due c 8))
      ⊢ iprop(((stgd c cc0_stg4_0 (stO f 1 c (unpack (Y I 7 (nxt c)))) ∗ slot c BG0 (Y I 7 c) ∗ slot c BG1 (Y I 7 (nxt c)) ∗ kit3 7 c ∗ kit1 8 c ∗ ow c (due c 9)) -∗ Q ⟨⟩)
          -∗ wp frame (wpE (defs₀ (F := F)) 𝒱₀ (c : Thread nD τ) none) Set.univ
      (k0_part20 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c (myW c) v5 v7) Q) := by
  simp only [k0_part20_eq_skeleton]; unfold k0_part20_skel
  simp only [Prog.lift, Prog.bind_op, Prog.bind_ret, Prog.pure_eq_ret]
  iintro ⟨#HR, #HL, HOUT, HS2_1, HK7, HK8, HF8, HOW⟩ Hk
  iapply (wp_waitS I K 7 c (src := flat BG1) (dst := flat BG0) (credit_src 7) (qs := ((cc0_scratch12.slice (Rect.unit (s := S3) ![0] S1.size inb_S3_S1_0)).squeeze S_ squeezes_S1_S_).sem) rfl 8) $$ [HK7 HOW]
  · isplitr; · iexact HR
    isplitr; · iexact HL
    isplitl [HK7]; · iexact HK7
    iexact HOW
  iintro ⟨HK7, HS5_0, HOW⟩
  ihave HS5_0 := (Entails.of_eq (show slot c (srcS 7) (Y I 7 c) = slot c BG0 (Y I 7 c) from rfl)) $$ HS5_0
  iapply (wp_waitR I K 7 c (src := flat BG0) (dst := flat BG1) (credit_dst 7) (qr := ((cc0_scratch13.slice (Rect.unit (s := S3) ![0] S1.size inb_S3_S1_0)).squeeze S_ squeezes_S1_S_).sem) rfl 8 (by decide) (c' := nxt c) rfl) $$ [HK7 HOW]
  · isplitr; · iexact HR
    isplitr; · iexact HL
    isplitl [HK7]; · iexact HK7
    iexact HOW
  iintro ⟨HK7, HS5_1, HOW⟩
  ihave HS5_1 := (Entails.of_eq (show slot c (dstS 7) (Y I 7 (nxt c)) = slot c BG1 (Y I 7 (nxt c)) from rfl)) $$ HS5_1
  iapply (wp_load_slot c (Memref.whole cc0_scratch5) (Rect.unit (s := S4x512x256) ![1, 0, 0] S1x512x256.size inb_S4x512x256_S1x512x256_1_0_0) (fun _ => rfl) (Y I 7 (nxt c))) $$ HS5_1; iintro HS5_1
  iapply (wp_load 𝒱₀ (c : Thread nD τ) none Set.univ (m := Memref.whole cc0_stg4_0) (Finset.subset_univ _)) $$ HOUT; iintro HOUT
  iapply (wp_storeO c f 1 c ((k0_pay44 (Y I 7 (nxt c)))) (unpack (Y I 7 (nxt c))) (o16_0 c) rfl) $$ HOUT; iintro HOUT
  iapply (wp_xfer I K 8 c (n := ⟨k0_dev11 c, k0_dev11_lt c⟩) (Fin.ext (k0_dev11_eq c)) (src := flat AG1) (dst := flat AG2) rfl rfl (qs := ((cc0_scratch8.slice (Rect.unit (s := S3) ![1] S1.size inb_S3_S1_1)).squeeze S_ squeezes_S1_S_).sem) (qr := ((cc0_scratch9.slice (Rect.unit (s := S3) ![1] S1.size inb_S3_S1_1)).squeeze S_ squeezes_S1_S_).sem) rfl rfl (j := 8) (j' := 9) rfl rfl) $$ [HK8 HS2_1 HF8 HOW]
  · isplitr; · iexact HR
    isplitl [HK8]; · iexact HK8
    isplitl [HS2_1]; · iexact HS2_1
    isplitl [HF8]; · iexact HF8
    iexact HOW
  iintro ⟨HK8, HOW⟩
  rw [wp_ret]; imodintro; iapply Hk
  isplitl [HOUT]; · iexact HOUT
  isplitl [HS5_0]; · iexact HS5_0
  isplitl [HS5_1]; · iexact HS5_1
  isplitl [HK7]; · iexact HK7
  isplitl [HK8]; · iexact HK8
  iexact HOW

/-- Part 21: the next effects in program order. -/
theorem part21_ok (I : Dev nD → DevIn F) (K : KI → ℕ) (c : Dev nD) (v5 : BitVec 32) (v7 : BitVec 32) {Q : (BitVec 32) → sProp 𝕄} :
    iprop(records I K ∗ levAts L lv ∗ slot c BG1 (Y I 7 (nxt c)) ∗ kit1 8 c ∗ kit0 9 c ∗ free 9 (peer 9 c) ∗ ow c (due c 9))
      ⊢ iprop(((slot c AG1 (Y I 8 c) ∗ slot c AG2 (Y I 8 (prv c)) ∗ kit3 8 c ∗ kit1 9 c ∗ ow c (due c 10)) -∗ Q (Scalar.remsi (Scalar.subi (Scalar.addi (myW c) 4#32) 1#32) 4#32))
          -∗ wp frame (wpE (defs₀ (F := F)) 𝒱₀ (c : Thread nD τ) none) Set.univ
      (k0_part21 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c (myW c) v5 v7) Q) := by
  simp only [k0_part21_eq_skeleton]; unfold k0_part21_skel
  simp only [Prog.lift, Prog.bind_op, Prog.bind_ret, Prog.pure_eq_ret]
  iintro ⟨#HR, #HL, HS5_1, HK8, HK9, HF9, HOW⟩ Hk
  iapply (wp_xfer I K 9 c (n := ⟨k0_dev12 c, k0_dev12_lt c⟩) (Fin.ext (k0_dev12_eq c)) (src := flat BG1) (dst := flat BG2) rfl rfl (qs := ((cc0_scratch12.slice (Rect.unit (s := S3) ![1] S1.size inb_S3_S1_1)).squeeze S_ squeezes_S1_S_).sem) (qr := ((cc0_scratch13.slice (Rect.unit (s := S3) ![1] S1.size inb_S3_S1_1)).squeeze S_ squeezes_S1_S_).sem) rfl rfl (j := 9) (j' := 10) rfl rfl) $$ [HK9 HS5_1 HF9 HOW]
  · isplitr; · iexact HR
    isplitl [HK9]; · iexact HK9
    isplitl [HS5_1]; · iexact HS5_1
    isplitl [HF9]; · iexact HF9
    iexact HOW
  iintro ⟨HK9, HOW⟩
  iapply (wp_waitS I K 8 c (src := flat AG2) (dst := flat AG1) (credit_src 8) (qs := ((cc0_scratch8.slice (Rect.unit (s := S3) ![1] S1.size inb_S3_S1_1)).squeeze S_ squeezes_S1_S_).sem) rfl 10) $$ [HK8 HOW]
  · isplitr; · iexact HR
    isplitr; · iexact HL
    isplitl [HK8]; · iexact HK8
    iexact HOW
  iintro ⟨HK8, HS2_1, HOW⟩
  ihave HS2_1 := (Entails.of_eq (show slot c (srcS 8) (Y I 8 c) = slot c AG1 (Y I 8 c) from rfl)) $$ HS2_1
  iapply (wp_waitR I K 8 c (src := flat AG1) (dst := flat AG2) (credit_dst 8) (qr := ((cc0_scratch9.slice (Rect.unit (s := S3) ![1] S1.size inb_S3_S1_1)).squeeze S_ squeezes_S1_S_).sem) rfl 10 (by decide) (c' := prv c) rfl) $$ [HK8 HOW]
  · isplitr; · iexact HR
    isplitr; · iexact HL
    isplitl [HK8]; · iexact HK8
    iexact HOW
  iintro ⟨HK8, HS2_2, HOW⟩
  ihave HS2_2 := (Entails.of_eq (show slot c (dstS 8) (Y I 8 (prv c)) = slot c AG2 (Y I 8 (prv c)) from rfl)) $$ HS2_2
  rw [wp_ret]; imodintro; iapply Hk
  isplitl [HS2_1]; · iexact HS2_1
  isplitl [HS2_2]; · iexact HS2_2
  isplitl [HK8]; · iexact HK8
  isplitl [HK9]; · iexact HK9
  iexact HOW

/-- Part 22: the next effects in program order. -/
theorem part22_ok (I : Dev nD → DevIn F) (K : KI → ℕ) (c : Dev nD) (v5 : BitVec 32) {Q : (Σ' (v705 : FVec F S512x256 .f32), BitVec 32) → sProp 𝕄} (f : Buf (Elt F) ((c : Thread nD τ).loc cc0_stg4_0)) :
    iprop(records I K ∗ levAts L lv ∗ stgd c cc0_stg4_0 f ∗ slot c AG2 (Y I 8 (prv c)) ∗ kit1 9 c ∗ ow c (due c 10))
      ⊢ iprop(((stgd c cc0_stg4_0 (stO f 0 (rot 3 c) (unpack (Y I 8 (prv c)))) ∗ slot c AG2 (Y I 8 (prv c)) ∗ slot c BG1 (Y I 9 c) ∗ slot c BG2 (Y I 9 (nxt c)) ∗ kit3 9 c ∗ ow c (due c 10)) -∗ Q ⟨(k0_pay46 (Y I 9 (nxt c))), (Scalar.muli (Scalar.remsi (Scalar.addi (myW c) 1#32) 4#32) 256#32)⟩)
          -∗ wp frame (wpE (defs₀ (F := F)) 𝒱₀ (c : Thread nD τ) none) Set.univ
      (k0_part22 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c (myW c) v5 (Scalar.remsi (Scalar.subi (Scalar.addi (myW c) 4#32) 1#32) 4#32)) Q) := by
  simp only [k0_part22_eq_skeleton]; unfold k0_part22_skel
  simp only [Prog.lift, Prog.bind_op, Prog.bind_ret, Prog.pure_eq_ret]
  iintro ⟨#HR, #HL, HOUT, HS2_2, HK9, HOW⟩ Hk
  iapply (wp_load_slot c (Memref.whole cc0_scratch2) (Rect.unit (s := S4x512x256) ![2, 0, 0] S1x512x256.size inb_S4x512x256_S1x512x256_2_0_0) (fun _ => rfl) (Y I 8 (prv c))) $$ HS2_2; iintro HS2_2
  iapply (wp_load 𝒱₀ (c : Thread nD τ) none Set.univ (m := Memref.whole cc0_stg4_0) (Finset.subset_univ _)) $$ HOUT; iintro HOUT
  iapply (wp_storeO c f 0 (rot 3 c) ((k0_pay45 (Y I 8 (prv c)))) (unpack (Y I 8 (prv c))) (o15_1 c) rfl) $$ HOUT; iintro HOUT
  iapply (wp_waitS I K 9 c (src := flat BG2) (dst := flat BG1) (credit_src 9) (qs := ((cc0_scratch12.slice (Rect.unit (s := S3) ![1] S1.size inb_S3_S1_1)).squeeze S_ squeezes_S1_S_).sem) rfl 10) $$ [HK9 HOW]
  · isplitr; · iexact HR
    isplitr; · iexact HL
    isplitl [HK9]; · iexact HK9
    iexact HOW
  iintro ⟨HK9, HS5_1, HOW⟩
  ihave HS5_1 := (Entails.of_eq (show slot c (srcS 9) (Y I 9 c) = slot c BG1 (Y I 9 c) from rfl)) $$ HS5_1
  iapply (wp_waitR I K 9 c (src := flat BG1) (dst := flat BG2) (credit_dst 9) (qr := ((cc0_scratch13.slice (Rect.unit (s := S3) ![1] S1.size inb_S3_S1_1)).squeeze S_ squeezes_S1_S_).sem) rfl 10 (by decide) (c' := nxt c) rfl) $$ [HK9 HOW]
  · isplitr; · iexact HR
    isplitr; · iexact HL
    isplitl [HK9]; · iexact HK9
    iexact HOW
  iintro ⟨HK9, HS5_2, HOW⟩
  ihave HS5_2 := (Entails.of_eq (show slot c (dstS 9) (Y I 9 (nxt c)) = slot c BG2 (Y I 9 (nxt c)) from rfl)) $$ HS5_2
  iapply (wp_load_slot c (Memref.whole cc0_scratch5) (Rect.unit (s := S4x512x256) ![2, 0, 0] S1x512x256.size inb_S4x512x256_S1x512x256_2_0_0) (fun _ => rfl) (Y I 9 (nxt c))) $$ HS5_2; iintro HS5_2
  rw [wp_ret]; imodintro; iapply Hk
  isplitl [HOUT]; · iexact HOUT
  isplitl [HS2_2]; · iexact HS2_2
  isplitl [HS5_1]; · iexact HS5_1
  isplitl [HS5_2]; · iexact HS5_2
  isplitl [HK9]; · iexact HK9
  iexact HOW

/-- Part 23: the next effects in program order. -/
theorem part23_ok (I : Dev nD → DevIn F) (K : KI → ℕ) (c : Dev nD) (v5 : BitVec 32) (v7 : BitVec 32) {Q : (PUnit) → sProp 𝕄} (f : Buf (Elt F) ((c : Thread nD τ).loc cc0_stg4_0)) :
    iprop(records I K ∗ stgd c cc0_stg4_0 f ∗ slot c AG2 (Y I 8 (prv c)) ∗ slot c BG2 (Y I 9 (nxt c)) ∗ kit0 10 c ∗ kit0 11 c ∗ free 10 (peer 10 c) ∗ free 11 (peer 11 c) ∗ ow c (due c 10))
      ⊢ iprop(((stgd c cc0_stg4_0 (stO f 1 (rot 1 c) (unpack (Y I 9 (nxt c)))) ∗ kit1 10 c ∗ kit1 11 c ∗ ow c (due c 12)) -∗ Q ⟨⟩)
          -∗ wp frame (wpE (defs₀ (F := F)) 𝒱₀ (c : Thread nD τ) none) Set.univ
      (k0_part23 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c v5 v7 (k0_pay46 (Y I 9 (nxt c))) (Scalar.muli (Scalar.remsi (Scalar.addi (myW c) 1#32) 4#32) 256#32)) Q) := by
  simp only [k0_part23_eq_skeleton]; unfold k0_part23_skel
  simp only [Prog.lift, Prog.bind_op, Prog.bind_ret, Prog.pure_eq_ret]
  iintro ⟨#HR, HOUT, HS2_2, HS5_2, HK10, HK11, HF10, HF11, HOW⟩ Hk
  iapply (wp_load 𝒱₀ (c : Thread nD τ) none Set.univ (m := Memref.whole cc0_stg4_0) (Finset.subset_univ _)) $$ HOUT; iintro HOUT
  iapply (wp_storeO c f 1 (rot 1 c) ((k0_pay46 (Y I 9 (nxt c)))) (unpack (Y I 9 (nxt c))) (o16_1 c) rfl) $$ HOUT; iintro HOUT
  iapply (wp_xfer I K 10 c (n := ⟨k0_dev13 c, k0_dev13_lt c⟩) (Fin.ext (k0_dev13_eq c)) (src := flat AG2) (dst := flat AG3) rfl rfl (qs := ((cc0_scratch8.slice (Rect.unit (s := S3) ![2] S1.size inb_S3_S1_2)).squeeze S_ squeezes_S1_S_).sem) (qr := ((cc0_scratch9.slice (Rect.unit (s := S3) ![2] S1.size inb_S3_S1_2)).squeeze S_ squeezes_S1_S_).sem) rfl rfl (j := 10) (j' := 11) rfl rfl) $$ [HK10 HS2_2 HF10 HOW]
  · isplitr; · iexact HR
    isplitl [HK10]; · iexact HK10
    isplitl [HS2_2]; · iexact HS2_2
    isplitl [HF10]; · iexact HF10
    iexact HOW
  iintro ⟨HK10, HOW⟩
  iapply (wp_xfer I K 11 c (n := ⟨k0_dev14 c, k0_dev14_lt c⟩) (Fin.ext (k0_dev14_eq c)) (src := flat BG2) (dst := flat BG3) rfl rfl (qs := ((cc0_scratch12.slice (Rect.unit (s := S3) ![2] S1.size inb_S3_S1_2)).squeeze S_ squeezes_S1_S_).sem) (qr := ((cc0_scratch13.slice (Rect.unit (s := S3) ![2] S1.size inb_S3_S1_2)).squeeze S_ squeezes_S1_S_).sem) rfl rfl (j := 11) (j' := 12) rfl rfl) $$ [HK11 HS5_2 HF11 HOW]
  · isplitr; · iexact HR
    isplitl [HK11]; · iexact HK11
    isplitl [HS5_2]; · iexact HS5_2
    isplitl [HF11]; · iexact HF11
    iexact HOW
  iintro ⟨HK11, HOW⟩
  rw [wp_ret]; imodintro; iapply Hk
  isplitl [HOUT]; · iexact HOUT
  isplitl [HK10]; · iexact HK10
  isplitl [HK11]; · iexact HK11
  iexact HOW

/-- Part 24: the next effects in program order. -/
theorem part24_ok (I : Dev nD → DevIn F) (K : KI → ℕ) (c : Dev nD) (v5 : BitVec 32) (v7 : BitVec 32) {Q : (BitVec 32) → sProp 𝕄} (f : Buf (Elt F) ((c : Thread nD τ).loc cc0_stg4_0)) :
    iprop(records I K ∗ levAts L lv ∗ stgd c cc0_stg4_0 f ∗ kit1 10 c ∗ kit1 11 c ∗ ow c (due c 12))
      ⊢ iprop(((stgd c cc0_stg4_0 (stO f 0 (rot 2 c) (unpack (Y I 10 (prv c)))) ∗ slot c AG2 (Y I 10 c) ∗ slot c AG3 (Y I 10 (prv c)) ∗ slot c BG2 (Y I 11 c) ∗ kit3 10 c ∗ kit2 11 c ∗ ow c (due c 12)) -∗ Q (Scalar.muli v5 1#32))
          -∗ wp frame (wpE (defs₀ (F := F)) 𝒱₀ (c : Thread nD τ) none) Set.univ
      (k0_part24 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13 c (myW c) v5 v7) Q) := by
  simp only [k0_part24_eq_skeleton]; unfold k0_part24_skel
  simp only [Prog.lift, Prog.bind_op, Prog.bind_ret, Prog.pure_eq_ret]
  iintro ⟨#HR, #HL, HOUT, HK10, HK11, HOW⟩ Hk
  iapply (wp_waitS I K 10 c (src := flat AG3) (dst := flat AG2) (credit_src 10) (qs := ((cc0_scratch8.slice (Rect.unit (s := S3) ![2] S1.size inb_S3_S1_2)).squeeze S_ squeezes_S1_S_).sem) rfl 12) $$ [HK10 HOW]
  · isplitr; · iexact HR
    isplitr; · iexact HL
    isplitl [HK10]; · iexact HK10
    iexact HOW
  iintro ⟨HK10, HS2_2, HOW⟩
  ihave HS2_2 := (Entails.of_eq (show slot c (srcS 10) (Y I 10 c) = slot c AG2 (Y I 10 c) from rfl)) $$ HS2_2
  iapply (wp_waitR I K 10 c (src := flat AG2) (dst := flat AG3) (credit_dst 10) (qr := ((cc0_scratch9.slice (Rect.unit (s := S3) ![2] S1.size inb_S3_S1_2)).squeeze S_ squeezes_S1_S_).sem) rfl 12 (by decide) (c' := prv c) rfl) $$ [HK10 HOW]
  · isplitr; · iexact HR
    isplitr; · iexact HL
    isplitl [HK10]; · iexact HK10
    iexact HOW
  iintro ⟨HK10, HS2_3, HOW⟩
  ihave HS2_3 := (Entails.of_eq (show slot c (dstS 10) (Y I 10 (prv c)) = slot c AG3 (Y I 10 (prv c)) from rfl)) $$ HS2_3
  iapply (wp_load_slot c (Memref.whole cc0_scratch2) (Rect.unit (s := S4x512x256) ![3, 0, 0] S1x512x256.size inb_S4x512x256_S1x512x256_3_0_0) (fun _ => rfl) (Y I 10 (prv c))) $$ HS2_3; iintro HS2_3
  iapply (wp_load 𝒱₀ (c : Thread nD τ) none Set.univ (m := Memref.whole cc0_stg4_0) (Finset.subset_univ _)) $$ HOUT; iintro HOUT
  iapply (wp_storeO c f 0 (rot 2 c) ((k0_pay47 (Y I 10 (prv c)))) (unpack (Y I 10 (prv c))) (o15_2 c) rfl) $$ HOUT; iintro HOUT
  iapply (wp_waitS I K 11 c (src := flat BG3) (dst := flat BG2) (credit_src 11) (qs := ((cc0_scratch12.slice (Rect.unit (s := S3) ![2] S1.size inb_S3_S1_2)).squeeze S_ squeezes_S1_S_).sem) rfl 12) $$ [HK11 HOW]
  · isplitr; · iexact HR
    isplitr; · iexact HL
    isplitl [HK11]; · iexact HK11
    iexact HOW
  iintro ⟨HK11, HS5_2, HOW⟩
  ihave HS5_2 := (Entails.of_eq (show slot c (srcS 11) (Y I 11 c) = slot c BG2 (Y I 11 c) from rfl)) $$ HS5_2
  rw [wp_ret]; imodintro; iapply Hk
  isplitl [HOUT]; · iexact HOUT
  isplitl [HS2_2]; · iexact HS2_2
  isplitl [HS2_3]; · iexact HS2_3
  isplitl [HS5_2]; · iexact HS5_2
  isplitl [HK10]; · iexact HK10
  isplitl [HK11]; · iexact HK11
  iexact HOW

end Cert.KernelIdeal.Moe

end
-- ==== Proof.Ideal.Body.lean ====
module

public import proofs.«01_k».proof.Proof.Ideal.Parts1
public import proofs.«01_k».proof.Proof.Ideal.Parts2
public import proofs.«01_k».proof.Proof.Ideal.Parts3

@[expose] public section

set_option maxRecDepth 16384

noncomputable section

/-! # The whole body -/

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Part 1: the barrier with both neighbours, then the tokens, the router and the routes. -/
theorem part1_ok (I : Dev nD → DevIn F) (K : KI → ℕ) (c : Dev nD) {Q : (Σ' (d0 : Dev nD) (v2 : BitVec 32) (v5 : BitVec 32) (v7 : BitVec 32) (v14 : FVec F S1024x512 .bf16) (v26 : FVec F S1024x16 .f32) (v28 : IVec S1024x1 32), Vec F S1024x1 .i32) → sProp 𝕄} :
    iprop(records I K ∗ levAts L lv ∗ stgd c cc0_stg0_0 (I c).fx ∗ stgd c cc0_stg1_0 (I c).fr ∗ stgd c cc0_stg2_0 (I c).fi
        ∗ atPos ER (barCell c) 0 ∅ 0 ∗ dutyTok ER (barCell (nxt c)) 0 false ∗ dutyTok ER (barCell (prv c)) 0 true
        ∗ cred (tallyAt (barCell c) () 2) ∗ landA c ∗ landB c ∗ ow c (O₀ c))
      ⊢ iprop(((stgd c cc0_stg0_0 (I c).fx ∗ stgd c cc0_stg1_0 (I c).fr ∗ stgd c cc0_stg2_0 (I c).fi
          ∗ semVal (barCell c) 0 ∗ landA (nxt c) ∗ landB (prv c) ∗ ow c (due c 0)) -∗ Q ⟨c, (myW c), (Scalar.remsi (Scalar.subi (Scalar.addi (myW c) 4#32) 1#32) 4#32), (Scalar.remsi (Scalar.addi (myW c) 1#32) 4#32), (k0_pay2 (ldX (I c))), (v26 (I c)), (v28 (I c)), (ldI1 (I c))⟩)
          -∗ wp frame (wpE (defs₀ (F := F)) 𝒱₀ (c : Thread nD τ) none) Set.univ
      (k0_part1 (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13) Q) := by
  simp only [k0_part1_eq_skeleton]; unfold k0_part1_skel
  simp only [semSignalWord, semWaitWord, Prog.lift, Prog.bind_op, Prog.bind_ret, Prog.pure_eq_ret, wp_deviceId]
  unfold ow
  iintro ⟨#HR, #HL, HD0, HD1, HD2, Hat, HtN, HtP, Hc, HA, HB, ⟨%W, HO⟩⟩ Hk
  rw [show (⟨k0_dev1 c, k0_dev1_lt c⟩ : Dev nD) = prv c from Fin.ext (k0_dev1_eq c), show (⟨k0_dev2 c, k0_dev2_lt c⟩ : Dev nD) = nxt c from Fin.ext (k0_dev2_eq c)]
  iapply (Rounds.wp_signal 𝒱₀ ER (rd I) (c : Thread nD τ) none (dst := (prv c : Thread nD τ)) (κ := K (prv c, none))
      (d := true) (by rw [duties_bar]; exact Finset.mem_univ _) ((amount_bar I (prv c) true).trans (by decide)) () (O₁ c) rfl)
    $$ [HO HtP HA]
  · isplitr; · iapply (inv_at I K (prv c, none)); iexact HR
    isplitl [HO]; · iexact HO
    isplitl [HtP]; · iexact HtP
    isplitl [HA]
    · rw [payload_bar]; unfold barPay; rw [if_pos rfl, nxt_prv]; iexact HA
    · iapply (reached_at I K (prv c, none)); iexact HR
  iintro HO
  unfold O₁
  iapply (Rounds.wp_signal 𝒱₀ ER (rd I) (c : Thread nD τ) none (dst := (nxt c : Thread nD τ)) (κ := K (nxt c, none))
      (d := false) (by rw [duties_bar]; exact Finset.mem_univ _) ((amount_bar I (nxt c) false).trans (by decide)) () (due c 0) rfl)
    $$ [HO HtN HB]
  · isplitr; · iapply (inv_at I K (nxt c, none)); iexact HR
    isplitl [HO]; · iexact HO
    isplitl [HtN]; · iexact HtN
    isplitl [HB]
    · rw [payload_bar]; unfold barPay; rw [if_neg (by decide), prv_nxt]; iexact HB
    · iapply (reached_at I K (nxt c, none)); iexact HR
  iintro HO
  iapply (Rounds.wp_wait_rest_token 𝒱₀ ER (rd I) (c : Thread nD τ) none (κ := K (c, none))
      (wpE_semWait_eq 𝒱₀ (c : Thread nD τ) none Set.univ) (Set.mem_univ _) () (O := due c 0) (W := W) (R := 0) (m := 0) (T := ∅)
      (by rw [expect_bar]; decide)) $$ [Hc HO Hat]
  · isplitr; · iapply (inv_at I K (c, none)); iexact HR
    isplitl [Hc]; · iexact Hc
    isplitl [HO]; · iexact HO
    isplitr; · iapply (mayWait_due (F := F) c (.reg barS) 0 (show 1 < 2 + 0 from by omega)); iexact HL
    iexact Hat
  iintro ⟨HO, Hat, -, Hpay⟩
  ihave Hp := (Entails.of_eq (rest_bar I c)) $$ Hpay
  icases Hp with ⟨HB, HA⟩
  imod (Rounds.cell_close ER (rd I) (Set.mem_univ (K (c, none))) (fun h => h) (R := 0 + 1) (duties_later I (barCell c))) $$ [Hat] with Hz
  · isplitr; · iapply (inv_at I K (c, none)); iexact HR
    iexact Hat
  iapply (wp_ldX (I c) c) $$ HD0; iintro HD0
  iapply (wp_ldR (I c) c) $$ HD1; iintro HD1
  iapply (wp_ldI0 (I c) c) $$ HD2; iintro HD2
  iapply (wp_ldI1 (I c) c) $$ HD2; iintro HD2
  rw [wp_ret]; imodintro; iapply Hk
  isplitl [HD0]; · iexact HD0
  isplitl [HD1]; · iexact HD1
  isplitl [HD2]; · iexact HD2
  isplitl [Hz]; · iexact Hz
  isplitl [HA]; · iexact HA
  isplitl [HB]; · iexact HB
  iexists (insert (SemLoc.reg barS, ()) W); iexact HO

/-- What the body takes besides the staged windows: its ghost state, what it owes, its scratch at any content. -/
def held (c : Dev nD) : sProp 𝕄 :=
  iprop(linear c ∗ landA c ∗ landB c ∗ anyS c AS0 ∗ anyS c AS1 ∗ anyS c AS2 ∗ anyS c AG0 ∗ anyS c BS0 ∗ anyS c BS1 ∗ anyS c BS2 ∗ anyS c BG0)

/-- The same at the end: every counter at zero and the whole scratch back. -/
def done (c : Dev nD) : sProp 𝕄 :=
  iprop(semVal (barCell c) 0 ∗ (bigSep Finset.univ fun x : Fin 12 => kit3 (F := F) x c) ∗ anyS c AS0 ∗ anyS c AS1 ∗ anyS c AS2 ∗ anyS c AR0 ∗ anyS c AR1 ∗ anyS c AR2 ∗ anyS c AG0 ∗ anyS c AG1 ∗ anyS c AG2 ∗ anyS c AG3 ∗ anyS c BS0 ∗ anyS c BS1 ∗ anyS c BS2 ∗ anyS c BR0 ∗ anyS c BR1 ∗ anyS c BR2 ∗ anyS c BG0 ∗ anyS c BG1 ∗ anyS c BG2 ∗ anyS c BG3)

/-- The result as the body leaves it, over whatever was there. -/
def outOver (I : Dev nD → DevIn F) {c : Dev nD} (f0 : Buf (Elt F) ((c : Thread nD τ).loc cc0_stg4_0)) : Buf (Elt F) ((c : Thread nD τ).loc cc0_stg4_0) :=
  stO (stO (stO (stO (stO (stO (stO (stO f0 0 (rot 1 c) (accA I c)) 1 (rot 3 c) (accB I c)) 0 c (unpack (Y I 6 (prv c)))) 1 c (unpack (Y I 7 (nxt c)))) 0 (rot 3 c) (unpack (Y I 8 (prv c)))) 1 (rot 1 c) (unpack (Y I 9 (nxt c)))) 0 (rot 2 c) (unpack (Y I 10 (prv c)))) 1 (rot 2 c) (unpack (Y I 11 (nxt c)))

theorem kits (P : Fin 12 → sProp 𝕄) : bigSep Finset.univ P
    = iprop(P 0 ∗ P 1 ∗ P 2 ∗ P 3 ∗ P 4 ∗ P 5 ∗ P 6 ∗ P 7 ∗ P 8 ∗ P 9 ∗ P 10 ∗ P 11) := by
  rw [bigSep_univ_eq_bigSepL [0, 1, 2, 3, 4, 5, 6, 7, 8, 9, 10, 11] (by decide) (by decide)]
  simp only [bigSepL_cons_cons, bigSepL_singleton]
  rfl

set_option maxHeartbeats 2000000 in
theorem body_ok (I : Dev nD → DevIn F) (K : KI → ℕ) (c : Dev nD) (f0 : Buf (Elt F) ((c : Thread nD τ).loc cc0_stg4_0)) (Kt : PUnit → sProp 𝕄) :
    iprop(records I K ∗ levAts L lv ∗ stgd c cc0_stg0_0 (I c).fx ∗ stgd c cc0_stg1_0 (I c).fr ∗ stgd c cc0_stg2_0 (I c).fi ∗ stgd c cc0_stg3_0 (I c).fw
        ∗ stgd c cc0_stg4_0 f0 ∗ held c ∗ ow c (O₀ c))
      ⊢ iprop(((stgd c cc0_stg0_0 (I c).fx ∗ stgd c cc0_stg1_0 (I c).fr ∗ stgd c cc0_stg2_0 (I c).fi ∗ stgd c cc0_stg3_0 (I c).fw
          ∗ stgd c cc0_stg4_0 (outOver I f0) ∗ done c ∗ ow c 0) -∗ Kt ⟨⟩)
          -∗ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13) Kt) := by
  simp only [cc0_body_eq_skeleton]; unfold cc0_body_skel
  unfold held linear
  rw [kits]
  iintro ⟨#HR, #HL, HD0, HD1, HD2, HD3, HOUT, ⟨⟨Hat, HtN, HtP, Hc, HK0, HK1, HK2, HK3, HK4, HK5, HK6, HK7, HK8, HK9, HK10, HK11⟩, HA, HB, HS0_0, HS0_1, HS0_2, HS2_0, HS3_0, HS3_1, HS3_2, HS5_0⟩, HOW⟩ Hk
  rw [wp_bind]
  iapply (part1_ok I K c) $$ [HD0 HD1 HD2 Hat HtN HtP Hc HA HB HOW]
  · isplitr; · iexact HR
    isplitr; · iexact HL
    isplitl [HD0]; · iexact HD0
    isplitl [HD1]; · iexact HD1
    isplitl [HD2]; · iexact HD2
    isplitl [Hat]; · iexact Hat
    isplitl [HtN]; · iexact HtN
    isplitl [HtP]; · iexact HtP
    isplitl [Hc]; · iexact Hc
    isplitl [HA]; · iexact HA
    isplitl [HB]; · iexact HB
    iexact HOW
  iintro ⟨HD0, HD1, HD2, Hz, HA, HB, HOW⟩
  unfold landA landB
  icases HA with ⟨HF0, HF2, HF4, HF6, HF8, HF10⟩
  icases HB with ⟨HF1, HF3, HF5, HF7, HF9, HF11⟩
  try dsimp only
  rw [wp_bind]
  iapply (part2_ok I c)
  try dsimp only
  rw [wp_bind]
  iapply (part3_ok I c) $$ [HD3]
  · iexact HD3
  iintro HD3
  try dsimp only
  rw [wp_bind]
  iapply (part4_ok I c) $$ [HD3 HS0_0]
  · isplitl [HD3]; · iexact HD3
    iexact HS0_0
  iintro ⟨HD3, HS0_0⟩
  try dsimp only
  rw [wp_bind]
  iapply (part5_ok I K c _ _) $$ [HD3 HS0_0 HS3_0 HK0 HF0 HOW]
  · isplitr; · iexact HR
    isplitl [HD3]; · iexact HD3
    isplitl [HS0_0]; · iexact HS0_0
    isplitl [HS3_0]; · iexact HS3_0
    isplitl [HK0]; · iexact HK0
    isplitl [HF0]; · iexact HF0
    iexact HOW
  iintro ⟨HD3, HS3_0, HK0, HOW⟩
  try dsimp only
  rw [wp_bind]
  iapply (part6_ok I K c) $$ [HD3 HS3_0 HK1 HF1 HOW]
  · isplitr; · iexact HR
    isplitl [HD3]; · iexact HD3
    isplitl [HS3_0]; · iexact HS3_0
    isplitl [HK1]; · iexact HK1
    isplitl [HF1]; · iexact HF1
    iexact HOW
  iintro ⟨HD3, HK1, HOW⟩
  try dsimp only
  rw [wp_bind]
  iapply (part7_ok I c) $$ [HD3]
  · iexact HD3
  iintro HD3
  try dsimp only
  rw [wp_bind]
  iapply (part8_ok I K c _ _) $$ [HK0 HK1 HOW]
  · isplitr; · iexact HR
    isplitr; · iexact HL
    isplitl [HK0]; · iexact HK0
    isplitl [HK1]; · iexact HK1
    iexact HOW
  iintro ⟨HS0_0, HS1_0, HS3_0, HK0, HK1, HOW⟩
  try dsimp only
  rw [wp_bind]
  iapply (part9_ok I K c _ _) $$ [HS0_1 HS3_1 HK1 HK2 HF2 HOW]
  · isplitr; · iexact HR
    isplitr; · iexact HL
    isplitl [HS0_1]; · iexact HS0_1
    isplitl [HS3_1]; · iexact HS3_1
    isplitl [HK1]; · iexact HK1
    isplitl [HK2]; · iexact HK2
    isplitl [HF2]; · iexact HF2
    iexact HOW
  iintro ⟨HS3_1, HS4_0, HK1, HK2, HOW⟩
  try dsimp only
  rw [wp_bind]
  iapply (part10_ok I K c _) $$ [HD3 HS3_1 HK3 HF3 HOW]
  · isplitr; · iexact HR
    isplitl [HD3]; · iexact HD3
    isplitl [HS3_1]; · iexact HS3_1
    isplitl [HK3]; · iexact HK3
    isplitl [HF3]; · iexact HF3
    iexact HOW
  iintro ⟨HD3, HK3, HOW⟩
  try dsimp only
  rw [wp_bind]
  iapply (part11_ok I c) $$ [HD3]
  · iexact HD3
  iintro HD3
  try dsimp only
  rw [wp_bind]
  iapply (part12_ok I K c _) $$ [HK2 HK3 HOW]
  · isplitr; · iexact HR
    isplitr; · iexact HL
    isplitl [HK2]; · iexact HK2
    isplitl [HK3]; · iexact HK3
    iexact HOW
  iintro ⟨HS0_1, HS1_1, HS3_1, HK2, HK3, HOW⟩
  try dsimp only
  rw [wp_bind]
  iapply (part13_ok I K c _ _) $$ [HS0_2 HS3_2 HK3 HOW]
  · isplitr; · iexact HR
    isplitr; · iexact HL
    isplitl [HS0_2]; · iexact HS0_2
    isplitl [HS3_2]; · iexact HS3_2
    isplitl [HK3]; · iexact HK3
    iexact HOW
  iintro ⟨HS0_2, HS3_2, HS4_1, HK3, HOW⟩
  try dsimp only
  rw [wp_bind]
  iapply (part14_ok I K c _) $$ [HD3 HS0_2 HS3_2 HK4 HK5 HF4 HF5 HOW]
  · isplitr; · iexact HR
    isplitl [HD3]; · iexact HD3
    isplitl [HS0_2]; · iexact HS0_2
    isplitl [HS3_2]; · iexact HS3_2
    isplitl [HK4]; · iexact HK4
    isplitl [HK5]; · iexact HK5
    isplitl [HF4]; · iexact HF4
    isplitl [HF5]; · iexact HF5
    iexact HOW
  iintro ⟨HD3, HK4, HK5, HOW⟩
  try dsimp only
  rw [wp_bind]
  iapply (part15_ok I c) $$ [HD3]
  · iexact HD3
  iintro HD3
  try dsimp only
  rw [wp_bind]
  iapply (part16_ok I K c _) $$ [HD3 HK4 HOW]
  · isplitr; · iexact HR
    isplitr; · iexact HL
    isplitl [HD3]; · iexact HD3
    isplitl [HK4]; · iexact HK4
    iexact HOW
  iintro ⟨HD3, HS0_2, HS1_2, HK4, HOW⟩
  try dsimp only
  rw [wp_bind]
  iapply (part17_ok I K c _) $$ [HS2_0 HS5_0 HK5 HOW]
  · isplitr; · iexact HR
    isplitr; · iexact HL
    isplitl [HS2_0]; · iexact HS2_0
    isplitl [HS5_0]; · iexact HS5_0
    isplitl [HK5]; · iexact HK5
    iexact HOW
  iintro ⟨HS2_0, HS3_2, HS4_2, HS5_0, HK5, HOW⟩
  try dsimp only
  rw [wp_bind]
  iapply (part18_ok I K c _ _ _) $$ [HOUT HS2_0 HS5_0 HK6 HK7 HF6 HF7 HOW]
  · isplitr; · iexact HR
    isplitl [HOUT]; · iexact HOUT
    isplitl [HS2_0]; · iexact HS2_0
    isplitl [HS5_0]; · iexact HS5_0
    isplitl [HK6]; · iexact HK6
    isplitl [HK7]; · iexact HK7
    isplitl [HF6]; · iexact HF6
    isplitl [HF7]; · iexact HF7
    iexact HOW
  iintro ⟨HOUT, HK6, HK7, HOW⟩
  try dsimp only
  rw [wp_bind]
  iapply (part19_ok I K c _ _) $$ [HOUT HK6 HOW]
  · isplitr; · iexact HR
    isplitr; · iexact HL
    isplitl [HOUT]; · iexact HOUT
    isplitl [HK6]; · iexact HK6
    iexact HOW
  iintro ⟨HOUT, HS2_0, HS2_1, HK6, HOW⟩
  try dsimp only
  rw [wp_bind]
  iapply (part20_ok I K c _ _ _) $$ [HOUT HS2_1 HK7 HK8 HF8 HOW]
  · isplitr; · iexact HR
    isplitr; · iexact HL
    isplitl [HOUT]; · iexact HOUT
    isplitl [HS2_1]; · iexact HS2_1
    isplitl [HK7]; · iexact HK7
    isplitl [HK8]; · iexact HK8
    isplitl [HF8]; · iexact HF8
    iexact HOW
  iintro ⟨HOUT, HS5_0, HS5_1, HK7, HK8, HOW⟩
  try dsimp only
  rw [wp_bind]
  iapply (part21_ok I K c _ _) $$ [HS5_1 HK8 HK9 HF9 HOW]
  · isplitr; · iexact HR
    isplitr; · iexact HL
    isplitl [HS5_1]; · iexact HS5_1
    isplitl [HK8]; · iexact HK8
    isplitl [HK9]; · iexact HK9
    isplitl [HF9]; · iexact HF9
    iexact HOW
  iintro ⟨HS2_1, HS2_2, HK8, HK9, HOW⟩
  try dsimp only
  rw [wp_bind]
  iapply (part22_ok I K c _ _) $$ [HOUT HS2_2 HK9 HOW]
  · isplitr; · iexact HR
    isplitr; · iexact HL
    isplitl [HOUT]; · iexact HOUT
    isplitl [HS2_2]; · iexact HS2_2
    isplitl [HK9]; · iexact HK9
    iexact HOW
  iintro ⟨HOUT, HS2_2, HS5_1, HS5_2, HK9, HOW⟩
  try dsimp only
  rw [wp_bind]
  iapply (part23_ok I K c _ _ _) $$ [HOUT HS2_2 HS5_2 HK10 HK11 HF10 HF11 HOW]
  · isplitr; · iexact HR
    isplitl [HOUT]; · iexact HOUT
    isplitl [HS2_2]; · iexact HS2_2
    isplitl [HS5_2]; · iexact HS5_2
    isplitl [HK10]; · iexact HK10
    isplitl [HK11]; · iexact HK11
    isplitl [HF10]; · iexact HF10
    isplitl [HF11]; · iexact HF11
    iexact HOW
  iintro ⟨HOUT, HK10, HK11, HOW⟩
  try dsimp only
  rw [wp_bind]
  iapply (part24_ok I K c _ _ _) $$ [HOUT HK10 HK11 HOW]
  · isplitr; · iexact HR
    isplitr; · iexact HL
    isplitl [HOUT]; · iexact HOUT
    isplitl [HK10]; · iexact HK10
    isplitl [HK11]; · iexact HK11
    iexact HOW
  iintro ⟨HOUT, HS2_2, HS2_3, HS5_2, HK10, HK11, HOW⟩
  try dsimp only
  simp only [Prog.lift, Prog.bind_op, Prog.bind_ret, Prog.pure_eq_ret]
  iapply (wp_waitR I K 11 c (src := flat BG2) (dst := flat BG3) (credit_dst 11) (qr := ((cc0_scratch13.slice (Rect.unit (s := S3) ![2] S1.size inb_S3_S1_2)).squeeze S_ squeezes_S1_S_).sem) rfl 12 (by decide) (c' := nxt c) rfl) $$ [HK11 HOW]
  · isplitr; · iexact HR
    isplitr; · iexact HL
    isplitl [HK11]; · iexact HK11
    iexact HOW
  iintro ⟨HK11, HS5_3, HOW⟩
  ihave HS5_3 := (Entails.of_eq (show slot c (dstS 11) (Y I 11 (nxt c)) = slot c BG3 (Y I 11 (nxt c)) from rfl)) $$ HS5_3
  iapply (wp_load_slot c (Memref.whole cc0_scratch5) (Rect.unit (s := S4x512x256) ![3, 0, 0] S1x512x256.size inb_S4x512x256_S1x512x256_3_0_0) (fun _ => rfl) (Y I 11 (nxt c))) $$ HS5_3; iintro HS5_3
  iapply (wp_load 𝒱₀ (c : Thread nD τ) none Set.univ (m := Memref.whole cc0_stg4_0) (Finset.subset_univ _)) $$ HOUT; iintro HOUT
  iapply (wp_storeO c _ 1 (rot 2 c) ((k0_pay1 (Y I 11 (nxt c)))) (unpack (Y I 11 (nxt c))) (o16_2 c) rfl) $$ HOUT; iintro HOUT
  rw [wp_ret]; imodintro; iapply Hk
  isplitl [HD0]; · iexact HD0
  isplitl [HD1]; · iexact HD1
  isplitl [HD2]; · iexact HD2
  isplitl [HD3]; · iexact HD3
  isplitl [HOUT]; · unfold outOver; iexact HOUT
  isplitr [HOW]
  · unfold done; rw [kits]
    isplitl [Hz]; · iexact Hz
    isplitl [HK0 HK1 HK2 HK3 HK4 HK5 HK6 HK7 HK8 HK9 HK10 HK11]
    · isplitl [HK0]; · iexact HK0
      isplitl [HK1]; · iexact HK1
      isplitl [HK2]; · iexact HK2
      isplitl [HK3]; · iexact HK3
      isplitl [HK4]; · iexact HK4
      isplitl [HK5]; · iexact HK5
      isplitl [HK6]; · iexact HK6
      isplitl [HK7]; · iexact HK7
      isplitl [HK8]; · iexact HK8
      isplitl [HK9]; · iexact HK9
      isplitl [HK10]; · iexact HK10
      iexact HK11
    isplitl [HS0_0]; · iexists _; iexact HS0_0
    isplitl [HS0_1]; · iexists _; iexact HS0_1
    isplitl [HS0_2]; · iexists _; iexact HS0_2
    isplitl [HS1_0]; · iexists _; iexact HS1_0
    isplitl [HS1_1]; · iexists _; iexact HS1_1
    isplitl [HS1_2]; · iexists _; iexact HS1_2
    isplitl [HS2_0]; · iexists _; iexact HS2_0
    isplitl [HS2_1]; · iexists _; iexact HS2_1
    isplitl [HS2_2]; · iexists _; iexact HS2_2
    isplitl [HS2_3]; · iexists _; iexact HS2_3
    isplitl [HS3_0]; · iexists _; iexact HS3_0
    isplitl [HS3_1]; · iexists _; iexact HS3_1
    isplitl [HS3_2]; · iexists _; iexact HS3_2
    isplitl [HS4_0]; · iexists _; iexact HS4_0
    isplitl [HS4_1]; · iexists _; iexact HS4_1
    isplitl [HS4_2]; · iexists _; iexact HS4_2
    isplitl [HS5_0]; · iexists _; iexact HS5_0
    isplitl [HS5_1]; · iexists _; iexact HS5_1
    isplitl [HS5_2]; · iexists _; iexact HS5_2
    iexists _; iexact HS5_3
  · rw [due_end]; iexact HOW

end Cert.KernelIdeal.Moe

end
-- ==== Proof.Ideal.Scratch.lean ====
module

public import proofs.«01_k».proof.Proof.Ideal.Body
public import Idealize.ShloMosaic.Lib.Ring

@[expose] public section

set_option maxRecDepth 16384

noncomputable section

/-! # The scratch buffers, slot by slot

At launch a device holds each of its six scratch buffers whole; the exchange holds them slot by slot. A buffer's
slots are disjoint and cover it, so it splits into them and they join back. -/

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The elements of slot `s` of a buffer of 3 slots. -/
def cut3 (s : Fin 3) : Finset S3x512x256.Idx := (Rect.unit (s := S3x512x256) ![s.val, 0, 0] S1x512x256.size (inb3 s)).set

theorem cut3_disjoint (s s' : Fin 3) (h : s ≠ s') : Disjoint (cut3 s) (cut3 s') :=
  Ring.lead_disjoint (s := S3x512x256) (0 : Fin 3) 1 (fun s : Fin 3 => ![s.val, 0, 0]) S1x512x256.size inb3 (fun s => (Nat.one_mul _).symm) rfl s s' h
theorem cut3_cover : Finset.univ.biUnion cut3 = Finset.univ :=
  Ring.lead_cover (s := S3x512x256) (0 : Fin 3) 1 (fun s : Fin 3 => ![s.val, 0, 0]) S1x512x256.size inb3 (fun s => (Nat.one_mul _).symm)
    (fun s a ha => by fin_cases a; · exact absurd rfl ha
                      all_goals rfl)
    rfl (fun a ha => by fin_cases a; · exact absurd rfl ha
                        all_goals rfl) rfl

theorem sep_fin3 (Φ : Fin 3 → sProp 𝕄) : bigSep Finset.univ Φ = iprop(Φ 0 ∗ Φ 1 ∗ Φ 2) := by
  rw [bigSep_univ_eq_bigSepL [0, 1, 2] (by decide) (by decide)]
  simp only [bigSepL_cons_cons, bigSepL_singleton]
  rfl

/-- The elements of slot `s` of a buffer of 4 slots. -/
def cut4 (s : Fin 4) : Finset S4x512x256.Idx := (Rect.unit (s := S4x512x256) ![s.val, 0, 0] S1x512x256.size (inb4 s)).set

theorem cut4_disjoint (s s' : Fin 4) (h : s ≠ s') : Disjoint (cut4 s) (cut4 s') :=
  Ring.lead_disjoint (s := S4x512x256) (0 : Fin 3) 1 (fun s : Fin 4 => ![s.val, 0, 0]) S1x512x256.size inb4 (fun s => (Nat.one_mul _).symm) rfl s s' h
theorem cut4_cover : Finset.univ.biUnion cut4 = Finset.univ :=
  Ring.lead_cover (s := S4x512x256) (0 : Fin 3) 1 (fun s : Fin 4 => ![s.val, 0, 0]) S1x512x256.size inb4 (fun s => (Nat.one_mul _).symm)
    (fun s a ha => by fin_cases a; · exact absurd rfl ha
                      all_goals rfl)
    rfl (fun a ha => by fin_cases a; · exact absurd rfl ha
                        all_goals rfl) rfl

theorem sep_fin4 (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]
  rfl

/-! ### Buffer 0 -/

theorem AS0_set : (AS0 : MR S1x512x256).view.set = cut3 0 := View.set_slice_whole _ _
theorem AS0_of (c : Dev nD) (f : Buf (Elt F) ((c : Thread nD τ).loc cc0_scratch0)) : (((c : Thread nD τ).loc cc0_scratch0) ↦[cut3 0]{fullShare} f : sProp 𝕄) ⊢ anyS c AS0 := by
  iintro H
  iexists ((AS0 : MR S1x512x256).view.read (Elt F) f)
  unfold slot owns
  iexists f
  isplitr; · ipureintro; rfl
  rw [AS0_set]; iexact H
theorem AS0_back (c : Dev nD) : (anyS c AS0 : sProp 𝕄) ⊢ iprop(∃ f : Buf (Elt F) ((c : Thread nD τ).loc cc0_scratch0), ((c : Thread nD τ).loc cc0_scratch0) ↦[cut3 0]{fullShare} f) := by
  unfold anyS slot owns
  iintro ⟨%w, %f, -, H⟩
  iexists f
  rw [AS0_set]; iexact H

theorem AS1_set : (AS1 : MR S1x512x256).view.set = cut3 1 := View.set_slice_whole _ _
theorem AS1_of (c : Dev nD) (f : Buf (Elt F) ((c : Thread nD τ).loc cc0_scratch0)) : (((c : Thread nD τ).loc cc0_scratch0) ↦[cut3 1]{fullShare} f : sProp 𝕄) ⊢ anyS c AS1 := by
  iintro H
  iexists ((AS1 : MR S1x512x256).view.read (Elt F) f)
  unfold slot owns
  iexists f
  isplitr; · ipureintro; rfl
  rw [AS1_set]; iexact H
theorem AS1_back (c : Dev nD) : (anyS c AS1 : sProp 𝕄) ⊢ iprop(∃ f : Buf (Elt F) ((c : Thread nD τ).loc cc0_scratch0), ((c : Thread nD τ).loc cc0_scratch0) ↦[cut3 1]{fullShare} f) := by
  unfold anyS slot owns
  iintro ⟨%w, %f, -, H⟩
  iexists f
  rw [AS1_set]; iexact H

theorem AS2_set : (AS2 : MR S1x512x256).view.set = cut3 2 := View.set_slice_whole _ _
theorem AS2_of (c : Dev nD) (f : Buf (Elt F) ((c : Thread nD τ).loc cc0_scratch0)) : (((c : Thread nD τ).loc cc0_scratch0) ↦[cut3 2]{fullShare} f : sProp 𝕄) ⊢ anyS c AS2 := by
  iintro H
  iexists ((AS2 : MR S1x512x256).view.read (Elt F) f)
  unfold slot owns
  iexists f
  isplitr; · ipureintro; rfl
  rw [AS2_set]; iexact H
theorem AS2_back (c : Dev nD) : (anyS c AS2 : sProp 𝕄) ⊢ iprop(∃ f : Buf (Elt F) ((c : Thread nD τ).loc cc0_scratch0), ((c : Thread nD τ).loc cc0_scratch0) ↦[cut3 2]{fullShare} f) := by
  unfold anyS slot owns
  iintro ⟨%w, %f, -, H⟩
  iexists f
  rw [AS2_set]; iexact H

theorem split_AS (c : Dev nD) : iprop(∃ f : Buf (Elt F) ((c : Thread nD τ).loc cc0_scratch0), ((c : Thread nD τ).loc cc0_scratch0) ↦{fullShare} f)
    ⊢ (iprop(anyS c AS0 ∗ anyS c AS1 ∗ anyS c AS2) : sProp 𝕄) := by
  iintro ⟨%f, H⟩
  ihave H' := (Entails.of_eq ((Ring.pointsTo_blocks (Ix := Unit) (Name := ℕ) (U := UU) (Lvl := ℕ) (q := fullShare) (ℓ := (c : Thread nD τ).loc cc0_scratch0) cut3 cut3_disjoint cut3_cover f).trans (sep_fin3 _))) $$ H
  icases H' with ⟨H0, H1, H2⟩
  isplitl [H0]; · iapply (AS0_of c f); iexact H0
  isplitl [H1]; · iapply (AS1_of c f); iexact H1
  iapply (AS2_of c f); iexact H2

theorem join_AS (c : Dev nD) : (iprop(anyS c AS0 ∗ anyS c AS1 ∗ anyS c AS2) : sProp 𝕄)
    ⊢ iprop(∃ f : Buf (Elt F) ((c : Thread nD τ).loc cc0_scratch0), ((c : Thread nD τ).loc cc0_scratch0) ↦{fullShare} f) := by
  iintro ⟨H0, H1, H2⟩
  ihave G0 := (AS0_back (F := F) c) $$ H0
  ihave G1 := (AS1_back (F := F) c) $$ H1
  ihave G2 := (AS2_back (F := F) c) $$ H2
  icases G0 with ⟨%f0, G0⟩
  iapply (Ring.pointsTo_blocks_join_exists (Ix := Unit) (Name := ℕ) (U := UU) (Lvl := ℕ) (q := fullShare) (ℓ := (c : Thread nD τ).loc cc0_scratch0) cut3 cut3_disjoint cut3_cover f0)
  rw [sep_fin3]
  isplitl [G0]; · iexists f0; iexact G0
  isplitl [G1]; · iexact G1
  iexact G2

/-! ### Buffer 1 -/

theorem AR0_set : (AR0 : MR S1x512x256).view.set = cut3 0 := View.set_slice_whole _ _
theorem AR0_of (c : Dev nD) (f : Buf (Elt F) ((c : Thread nD τ).loc cc0_scratch1)) : (((c : Thread nD τ).loc cc0_scratch1) ↦[cut3 0]{fullShare} f : sProp 𝕄) ⊢ anyS c AR0 := by
  iintro H
  iexists ((AR0 : MR S1x512x256).view.read (Elt F) f)
  unfold slot owns
  iexists f
  isplitr; · ipureintro; rfl
  rw [AR0_set]; iexact H
theorem AR0_back (c : Dev nD) : (anyS c AR0 : sProp 𝕄) ⊢ iprop(∃ f : Buf (Elt F) ((c : Thread nD τ).loc cc0_scratch1), ((c : Thread nD τ).loc cc0_scratch1) ↦[cut3 0]{fullShare} f) := by
  unfold anyS slot owns
  iintro ⟨%w, %f, -, H⟩
  iexists f
  rw [AR0_set]; iexact H

theorem AR1_set : (AR1 : MR S1x512x256).view.set = cut3 1 := View.set_slice_whole _ _
theorem AR1_of (c : Dev nD) (f : Buf (Elt F) ((c : Thread nD τ).loc cc0_scratch1)) : (((c : Thread nD τ).loc cc0_scratch1) ↦[cut3 1]{fullShare} f : sProp 𝕄) ⊢ anyS c AR1 := by
  iintro H
  iexists ((AR1 : MR S1x512x256).view.read (Elt F) f)
  unfold slot owns
  iexists f
  isplitr; · ipureintro; rfl
  rw [AR1_set]; iexact H
theorem AR1_back (c : Dev nD) : (anyS c AR1 : sProp 𝕄) ⊢ iprop(∃ f : Buf (Elt F) ((c : Thread nD τ).loc cc0_scratch1), ((c : Thread nD τ).loc cc0_scratch1) ↦[cut3 1]{fullShare} f) := by
  unfold anyS slot owns
  iintro ⟨%w, %f, -, H⟩
  iexists f
  rw [AR1_set]; iexact H

theorem AR2_set : (AR2 : MR S1x512x256).view.set = cut3 2 := View.set_slice_whole _ _
theorem AR2_of (c : Dev nD) (f : Buf (Elt F) ((c : Thread nD τ).loc cc0_scratch1)) : (((c : Thread nD τ).loc cc0_scratch1) ↦[cut3 2]{fullShare} f : sProp 𝕄) ⊢ anyS c AR2 := by
  iintro H
  iexists ((AR2 : MR S1x512x256).view.read (Elt F) f)
  unfold slot owns
  iexists f
  isplitr; · ipureintro; rfl
  rw [AR2_set]; iexact H
theorem AR2_back (c : Dev nD) : (anyS c AR2 : sProp 𝕄) ⊢ iprop(∃ f : Buf (Elt F) ((c : Thread nD τ).loc cc0_scratch1), ((c : Thread nD τ).loc cc0_scratch1) ↦[cut3 2]{fullShare} f) := by
  unfold anyS slot owns
  iintro ⟨%w, %f, -, H⟩
  iexists f
  rw [AR2_set]; iexact H

theorem split_AR (c : Dev nD) : iprop(∃ f : Buf (Elt F) ((c : Thread nD τ).loc cc0_scratch1), ((c : Thread nD τ).loc cc0_scratch1) ↦{fullShare} f)
    ⊢ (iprop(anyS c AR0 ∗ anyS c AR1 ∗ anyS c AR2) : sProp 𝕄) := by
  iintro ⟨%f, H⟩
  ihave H' := (Entails.of_eq ((Ring.pointsTo_blocks (Ix := Unit) (Name := ℕ) (U := UU) (Lvl := ℕ) (q := fullShare) (ℓ := (c : Thread nD τ).loc cc0_scratch1) cut3 cut3_disjoint cut3_cover f).trans (sep_fin3 _))) $$ H
  icases H' with ⟨H0, H1, H2⟩
  isplitl [H0]; · iapply (AR0_of c f); iexact H0
  isplitl [H1]; · iapply (AR1_of c f); iexact H1
  iapply (AR2_of c f); iexact H2

theorem join_AR (c : Dev nD) : (iprop(anyS c AR0 ∗ anyS c AR1 ∗ anyS c AR2) : sProp 𝕄)
    ⊢ iprop(∃ f : Buf (Elt F) ((c : Thread nD τ).loc cc0_scratch1), ((c : Thread nD τ).loc cc0_scratch1) ↦{fullShare} f) := by
  iintro ⟨H0, H1, H2⟩
  ihave G0 := (AR0_back (F := F) c) $$ H0
  ihave G1 := (AR1_back (F := F) c) $$ H1
  ihave G2 := (AR2_back (F := F) c) $$ H2
  icases G0 with ⟨%f0, G0⟩
  iapply (Ring.pointsTo_blocks_join_exists (Ix := Unit) (Name := ℕ) (U := UU) (Lvl := ℕ) (q := fullShare) (ℓ := (c : Thread nD τ).loc cc0_scratch1) cut3 cut3_disjoint cut3_cover f0)
  rw [sep_fin3]
  isplitl [G0]; · iexists f0; iexact G0
  isplitl [G1]; · iexact G1
  iexact G2

/-! ### Buffer 2 -/

theorem AG0_set : (AG0 : MR S1x512x256).view.set = cut4 0 := View.set_slice_whole _ _
theorem AG0_of (c : Dev nD) (f : Buf (Elt F) ((c : Thread nD τ).loc cc0_scratch2)) : (((c : Thread nD τ).loc cc0_scratch2) ↦[cut4 0]{fullShare} f : sProp 𝕄) ⊢ anyS c AG0 := by
  iintro H
  iexists ((AG0 : MR S1x512x256).view.read (Elt F) f)
  unfold slot owns
  iexists f
  isplitr; · ipureintro; rfl
  rw [AG0_set]; iexact H
theorem AG0_back (c : Dev nD) : (anyS c AG0 : sProp 𝕄) ⊢ iprop(∃ f : Buf (Elt F) ((c : Thread nD τ).loc cc0_scratch2), ((c : Thread nD τ).loc cc0_scratch2) ↦[cut4 0]{fullShare} f) := by
  unfold anyS slot owns
  iintro ⟨%w, %f, -, H⟩
  iexists f
  rw [AG0_set]; iexact H

theorem AG1_set : (AG1 : MR S1x512x256).view.set = cut4 1 := View.set_slice_whole _ _
theorem AG1_of (c : Dev nD) (f : Buf (Elt F) ((c : Thread nD τ).loc cc0_scratch2)) : (((c : Thread nD τ).loc cc0_scratch2) ↦[cut4 1]{fullShare} f : sProp 𝕄) ⊢ anyS c AG1 := by
  iintro H
  iexists ((AG1 : MR S1x512x256).view.read (Elt F) f)
  unfold slot owns
  iexists f
  isplitr; · ipureintro; rfl
  rw [AG1_set]; iexact H
theorem AG1_back (c : Dev nD) : (anyS c AG1 : sProp 𝕄) ⊢ iprop(∃ f : Buf (Elt F) ((c : Thread nD τ).loc cc0_scratch2), ((c : Thread nD τ).loc cc0_scratch2) ↦[cut4 1]{fullShare} f) := by
  unfold anyS slot owns
  iintro ⟨%w, %f, -, H⟩
  iexists f
  rw [AG1_set]; iexact H

theorem AG2_set : (AG2 : MR S1x512x256).view.set = cut4 2 := View.set_slice_whole _ _
theorem AG2_of (c : Dev nD) (f : Buf (Elt F) ((c : Thread nD τ).loc cc0_scratch2)) : (((c : Thread nD τ).loc cc0_scratch2) ↦[cut4 2]{fullShare} f : sProp 𝕄) ⊢ anyS c AG2 := by
  iintro H
  iexists ((AG2 : MR S1x512x256).view.read (Elt F) f)
  unfold slot owns
  iexists f
  isplitr; · ipureintro; rfl
  rw [AG2_set]; iexact H
theorem AG2_back (c : Dev nD) : (anyS c AG2 : sProp 𝕄) ⊢ iprop(∃ f : Buf (Elt F) ((c : Thread nD τ).loc cc0_scratch2), ((c : Thread nD τ).loc cc0_scratch2) ↦[cut4 2]{fullShare} f) := by
  unfold anyS slot owns
  iintro ⟨%w, %f, -, H⟩
  iexists f
  rw [AG2_set]; iexact H

theorem AG3_set : (AG3 : MR S1x512x256).view.set = cut4 3 := View.set_slice_whole _ _
theorem AG3_of (c : Dev nD) (f : Buf (Elt F) ((c : Thread nD τ).loc cc0_scratch2)) : (((c : Thread nD τ).loc cc0_scratch2) ↦[cut4 3]{fullShare} f : sProp 𝕄) ⊢ anyS c AG3 := by
  iintro H
  iexists ((AG3 : MR S1x512x256).view.read (Elt F) f)
  unfold slot owns
  iexists f
  isplitr; · ipureintro; rfl
  rw [AG3_set]; iexact H
theorem AG3_back (c : Dev nD) : (anyS c AG3 : sProp 𝕄) ⊢ iprop(∃ f : Buf (Elt F) ((c : Thread nD τ).loc cc0_scratch2), ((c : Thread nD τ).loc cc0_scratch2) ↦[cut4 3]{fullShare} f) := by
  unfold anyS slot owns
  iintro ⟨%w, %f, -, H⟩
  iexists f
  rw [AG3_set]; iexact H

theorem split_AG (c : Dev nD) : iprop(∃ f : Buf (Elt F) ((c : Thread nD τ).loc cc0_scratch2), ((c : Thread nD τ).loc cc0_scratch2) ↦{fullShare} f)
    ⊢ (iprop(anyS c AG0 ∗ anyS c AG1 ∗ anyS c AG2 ∗ anyS c AG3) : sProp 𝕄) := by
  iintro ⟨%f, H⟩
  ihave H' := (Entails.of_eq ((Ring.pointsTo_blocks (Ix := Unit) (Name := ℕ) (U := UU) (Lvl := ℕ) (q := fullShare) (ℓ := (c : Thread nD τ).loc cc0_scratch2) cut4 cut4_disjoint cut4_cover f).trans (sep_fin4 _))) $$ H
  icases H' with ⟨H0, H1, H2, H3⟩
  isplitl [H0]; · iapply (AG0_of c f); iexact H0
  isplitl [H1]; · iapply (AG1_of c f); iexact H1
  isplitl [H2]; · iapply (AG2_of c f); iexact H2
  iapply (AG3_of c f); iexact H3

theorem join_AG (c : Dev nD) : (iprop(anyS c AG0 ∗ anyS c AG1 ∗ anyS c AG2 ∗ anyS c AG3) : sProp 𝕄)
    ⊢ iprop(∃ f : Buf (Elt F) ((c : Thread nD τ).loc cc0_scratch2), ((c : Thread nD τ).loc cc0_scratch2) ↦{fullShare} f) := by
  iintro ⟨H0, H1, H2, H3⟩
  ihave G0 := (AG0_back (F := F) c) $$ H0
  ihave G1 := (AG1_back (F := F) c) $$ H1
  ihave G2 := (AG2_back (F := F) c) $$ H2
  ihave G3 := (AG3_back (F := F) c) $$ H3
  icases G0 with ⟨%f0, G0⟩
  iapply (Ring.pointsTo_blocks_join_exists (Ix := Unit) (Name := ℕ) (U := UU) (Lvl := ℕ) (q := fullShare) (ℓ := (c : Thread nD τ).loc cc0_scratch2) cut4 cut4_disjoint cut4_cover f0)
  rw [sep_fin4]
  isplitl [G0]; · iexists f0; iexact G0
  isplitl [G1]; · iexact G1
  isplitl [G2]; · iexact G2
  iexact G3

/-! ### Buffer 3 -/

theorem BS0_set : (BS0 : MR S1x512x256).view.set = cut3 0 := View.set_slice_whole _ _
theorem BS0_of (c : Dev nD) (f : Buf (Elt F) ((c : Thread nD τ).loc cc0_scratch3)) : (((c : Thread nD τ).loc cc0_scratch3) ↦[cut3 0]{fullShare} f : sProp 𝕄) ⊢ anyS c BS0 := by
  iintro H
  iexists ((BS0 : MR S1x512x256).view.read (Elt F) f)
  unfold slot owns
  iexists f
  isplitr; · ipureintro; rfl
  rw [BS0_set]; iexact H
theorem BS0_back (c : Dev nD) : (anyS c BS0 : sProp 𝕄) ⊢ iprop(∃ f : Buf (Elt F) ((c : Thread nD τ).loc cc0_scratch3), ((c : Thread nD τ).loc cc0_scratch3) ↦[cut3 0]{fullShare} f) := by
  unfold anyS slot owns
  iintro ⟨%w, %f, -, H⟩
  iexists f
  rw [BS0_set]; iexact H

theorem BS1_set : (BS1 : MR S1x512x256).view.set = cut3 1 := View.set_slice_whole _ _
theorem BS1_of (c : Dev nD) (f : Buf (Elt F) ((c : Thread nD τ).loc cc0_scratch3)) : (((c : Thread nD τ).loc cc0_scratch3) ↦[cut3 1]{fullShare} f : sProp 𝕄) ⊢ anyS c BS1 := by
  iintro H
  iexists ((BS1 : MR S1x512x256).view.read (Elt F) f)
  unfold slot owns
  iexists f
  isplitr; · ipureintro; rfl
  rw [BS1_set]; iexact H
theorem BS1_back (c : Dev nD) : (anyS c BS1 : sProp 𝕄) ⊢ iprop(∃ f : Buf (Elt F) ((c : Thread nD τ).loc cc0_scratch3), ((c : Thread nD τ).loc cc0_scratch3) ↦[cut3 1]{fullShare} f) := by
  unfold anyS slot owns
  iintro ⟨%w, %f, -, H⟩
  iexists f
  rw [BS1_set]; iexact H

theorem BS2_set : (BS2 : MR S1x512x256).view.set = cut3 2 := View.set_slice_whole _ _
theorem BS2_of (c : Dev nD) (f : Buf (Elt F) ((c : Thread nD τ).loc cc0_scratch3)) : (((c : Thread nD τ).loc cc0_scratch3) ↦[cut3 2]{fullShare} f : sProp 𝕄) ⊢ anyS c BS2 := by
  iintro H
  iexists ((BS2 : MR S1x512x256).view.read (Elt F) f)
  unfold slot owns
  iexists f
  isplitr; · ipureintro; rfl
  rw [BS2_set]; iexact H
theorem BS2_back (c : Dev nD) : (anyS c BS2 : sProp 𝕄) ⊢ iprop(∃ f : Buf (Elt F) ((c : Thread nD τ).loc cc0_scratch3), ((c : Thread nD τ).loc cc0_scratch3) ↦[cut3 2]{fullShare} f) := by
  unfold anyS slot owns
  iintro ⟨%w, %f, -, H⟩
  iexists f
  rw [BS2_set]; iexact H

theorem split_BS (c : Dev nD) : iprop(∃ f : Buf (Elt F) ((c : Thread nD τ).loc cc0_scratch3), ((c : Thread nD τ).loc cc0_scratch3) ↦{fullShare} f)
    ⊢ (iprop(anyS c BS0 ∗ anyS c BS1 ∗ anyS c BS2) : sProp 𝕄) := by
  iintro ⟨%f, H⟩
  ihave H' := (Entails.of_eq ((Ring.pointsTo_blocks (Ix := Unit) (Name := ℕ) (U := UU) (Lvl := ℕ) (q := fullShare) (ℓ := (c : Thread nD τ).loc cc0_scratch3) cut3 cut3_disjoint cut3_cover f).trans (sep_fin3 _))) $$ H
  icases H' with ⟨H0, H1, H2⟩
  isplitl [H0]; · iapply (BS0_of c f); iexact H0
  isplitl [H1]; · iapply (BS1_of c f); iexact H1
  iapply (BS2_of c f); iexact H2

theorem join_BS (c : Dev nD) : (iprop(anyS c BS0 ∗ anyS c BS1 ∗ anyS c BS2) : sProp 𝕄)
    ⊢ iprop(∃ f : Buf (Elt F) ((c : Thread nD τ).loc cc0_scratch3), ((c : Thread nD τ).loc cc0_scratch3) ↦{fullShare} f) := by
  iintro ⟨H0, H1, H2⟩
  ihave G0 := (BS0_back (F := F) c) $$ H0
  ihave G1 := (BS1_back (F := F) c) $$ H1
  ihave G2 := (BS2_back (F := F) c) $$ H2
  icases G0 with ⟨%f0, G0⟩
  iapply (Ring.pointsTo_blocks_join_exists (Ix := Unit) (Name := ℕ) (U := UU) (Lvl := ℕ) (q := fullShare) (ℓ := (c : Thread nD τ).loc cc0_scratch3) cut3 cut3_disjoint cut3_cover f0)
  rw [sep_fin3]
  isplitl [G0]; · iexists f0; iexact G0
  isplitl [G1]; · iexact G1
  iexact G2

/-! ### Buffer 4 -/

theorem BR0_set : (BR0 : MR S1x512x256).view.set = cut3 0 := View.set_slice_whole _ _
theorem BR0_of (c : Dev nD) (f : Buf (Elt F) ((c : Thread nD τ).loc cc0_scratch4)) : (((c : Thread nD τ).loc cc0_scratch4) ↦[cut3 0]{fullShare} f : sProp 𝕄) ⊢ anyS c BR0 := by
  iintro H
  iexists ((BR0 : MR S1x512x256).view.read (Elt F) f)
  unfold slot owns
  iexists f
  isplitr; · ipureintro; rfl
  rw [BR0_set]; iexact H
theorem BR0_back (c : Dev nD) : (anyS c BR0 : sProp 𝕄) ⊢ iprop(∃ f : Buf (Elt F) ((c : Thread nD τ).loc cc0_scratch4), ((c : Thread nD τ).loc cc0_scratch4) ↦[cut3 0]{fullShare} f) := by
  unfold anyS slot owns
  iintro ⟨%w, %f, -, H⟩
  iexists f
  rw [BR0_set]; iexact H

theorem BR1_set : (BR1 : MR S1x512x256).view.set = cut3 1 := View.set_slice_whole _ _
theorem BR1_of (c : Dev nD) (f : Buf (Elt F) ((c : Thread nD τ).loc cc0_scratch4)) : (((c : Thread nD τ).loc cc0_scratch4) ↦[cut3 1]{fullShare} f : sProp 𝕄) ⊢ anyS c BR1 := by
  iintro H
  iexists ((BR1 : MR S1x512x256).view.read (Elt F) f)
  unfold slot owns
  iexists f
  isplitr; · ipureintro; rfl
  rw [BR1_set]; iexact H
theorem BR1_back (c : Dev nD) : (anyS c BR1 : sProp 𝕄) ⊢ iprop(∃ f : Buf (Elt F) ((c : Thread nD τ).loc cc0_scratch4), ((c : Thread nD τ).loc cc0_scratch4) ↦[cut3 1]{fullShare} f) := by
  unfold anyS slot owns
  iintro ⟨%w, %f, -, H⟩
  iexists f
  rw [BR1_set]; iexact H

theorem BR2_set : (BR2 : MR S1x512x256).view.set = cut3 2 := View.set_slice_whole _ _
theorem BR2_of (c : Dev nD) (f : Buf (Elt F) ((c : Thread nD τ).loc cc0_scratch4)) : (((c : Thread nD τ).loc cc0_scratch4) ↦[cut3 2]{fullShare} f : sProp 𝕄) ⊢ anyS c BR2 := by
  iintro H
  iexists ((BR2 : MR S1x512x256).view.read (Elt F) f)
  unfold slot owns
  iexists f
  isplitr; · ipureintro; rfl
  rw [BR2_set]; iexact H
theorem BR2_back (c : Dev nD) : (anyS c BR2 : sProp 𝕄) ⊢ iprop(∃ f : Buf (Elt F) ((c : Thread nD τ).loc cc0_scratch4), ((c : Thread nD τ).loc cc0_scratch4) ↦[cut3 2]{fullShare} f) := by
  unfold anyS slot owns
  iintro ⟨%w, %f, -, H⟩
  iexists f
  rw [BR2_set]; iexact H

theorem split_BR (c : Dev nD) : iprop(∃ f : Buf (Elt F) ((c : Thread nD τ).loc cc0_scratch4), ((c : Thread nD τ).loc cc0_scratch4) ↦{fullShare} f)
    ⊢ (iprop(anyS c BR0 ∗ anyS c BR1 ∗ anyS c BR2) : sProp 𝕄) := by
  iintro ⟨%f, H⟩
  ihave H' := (Entails.of_eq ((Ring.pointsTo_blocks (Ix := Unit) (Name := ℕ) (U := UU) (Lvl := ℕ) (q := fullShare) (ℓ := (c : Thread nD τ).loc cc0_scratch4) cut3 cut3_disjoint cut3_cover f).trans (sep_fin3 _))) $$ H
  icases H' with ⟨H0, H1, H2⟩
  isplitl [H0]; · iapply (BR0_of c f); iexact H0
  isplitl [H1]; · iapply (BR1_of c f); iexact H1
  iapply (BR2_of c f); iexact H2

theorem join_BR (c : Dev nD) : (iprop(anyS c BR0 ∗ anyS c BR1 ∗ anyS c BR2) : sProp 𝕄)
    ⊢ iprop(∃ f : Buf (Elt F) ((c : Thread nD τ).loc cc0_scratch4), ((c : Thread nD τ).loc cc0_scratch4) ↦{fullShare} f) := by
  iintro ⟨H0, H1, H2⟩
  ihave G0 := (BR0_back (F := F) c) $$ H0
  ihave G1 := (BR1_back (F := F) c) $$ H1
  ihave G2 := (BR2_back (F := F) c) $$ H2
  icases G0 with ⟨%f0, G0⟩
  iapply (Ring.pointsTo_blocks_join_exists (Ix := Unit) (Name := ℕ) (U := UU) (Lvl := ℕ) (q := fullShare) (ℓ := (c : Thread nD τ).loc cc0_scratch4) cut3 cut3_disjoint cut3_cover f0)
  rw [sep_fin3]
  isplitl [G0]; · iexists f0; iexact G0
  isplitl [G1]; · iexact G1
  iexact G2

/-! ### Buffer 5 -/

theorem BG0_set : (BG0 : MR S1x512x256).view.set = cut4 0 := View.set_slice_whole _ _
theorem BG0_of (c : Dev nD) (f : Buf (Elt F) ((c : Thread nD τ).loc cc0_scratch5)) : (((c : Thread nD τ).loc cc0_scratch5) ↦[cut4 0]{fullShare} f : sProp 𝕄) ⊢ anyS c BG0 := by
  iintro H
  iexists ((BG0 : MR S1x512x256).view.read (Elt F) f)
  unfold slot owns
  iexists f
  isplitr; · ipureintro; rfl
  rw [BG0_set]; iexact H
theorem BG0_back (c : Dev nD) : (anyS c BG0 : sProp 𝕄) ⊢ iprop(∃ f : Buf (Elt F) ((c : Thread nD τ).loc cc0_scratch5), ((c : Thread nD τ).loc cc0_scratch5) ↦[cut4 0]{fullShare} f) := by
  unfold anyS slot owns
  iintro ⟨%w, %f, -, H⟩
  iexists f
  rw [BG0_set]; iexact H

theorem BG1_set : (BG1 : MR S1x512x256).view.set = cut4 1 := View.set_slice_whole _ _
theorem BG1_of (c : Dev nD) (f : Buf (Elt F) ((c : Thread nD τ).loc cc0_scratch5)) : (((c : Thread nD τ).loc cc0_scratch5) ↦[cut4 1]{fullShare} f : sProp 𝕄) ⊢ anyS c BG1 := by
  iintro H
  iexists ((BG1 : MR S1x512x256).view.read (Elt F) f)
  unfold slot owns
  iexists f
  isplitr; · ipureintro; rfl
  rw [BG1_set]; iexact H
theorem BG1_back (c : Dev nD) : (anyS c BG1 : sProp 𝕄) ⊢ iprop(∃ f : Buf (Elt F) ((c : Thread nD τ).loc cc0_scratch5), ((c : Thread nD τ).loc cc0_scratch5) ↦[cut4 1]{fullShare} f) := by
  unfold anyS slot owns
  iintro ⟨%w, %f, -, H⟩
  iexists f
  rw [BG1_set]; iexact H

theorem BG2_set : (BG2 : MR S1x512x256).view.set = cut4 2 := View.set_slice_whole _ _
theorem BG2_of (c : Dev nD) (f : Buf (Elt F) ((c : Thread nD τ).loc cc0_scratch5)) : (((c : Thread nD τ).loc cc0_scratch5) ↦[cut4 2]{fullShare} f : sProp 𝕄) ⊢ anyS c BG2 := by
  iintro H
  iexists ((BG2 : MR S1x512x256).view.read (Elt F) f)
  unfold slot owns
  iexists f
  isplitr; · ipureintro; rfl
  rw [BG2_set]; iexact H
theorem BG2_back (c : Dev nD) : (anyS c BG2 : sProp 𝕄) ⊢ iprop(∃ f : Buf (Elt F) ((c : Thread nD τ).loc cc0_scratch5), ((c : Thread nD τ).loc cc0_scratch5) ↦[cut4 2]{fullShare} f) := by
  unfold anyS slot owns
  iintro ⟨%w, %f, -, H⟩
  iexists f
  rw [BG2_set]; iexact H

theorem BG3_set : (BG3 : MR S1x512x256).view.set = cut4 3 := View.set_slice_whole _ _
theorem BG3_of (c : Dev nD) (f : Buf (Elt F) ((c : Thread nD τ).loc cc0_scratch5)) : (((c : Thread nD τ).loc cc0_scratch5) ↦[cut4 3]{fullShare} f : sProp 𝕄) ⊢ anyS c BG3 := by
  iintro H
  iexists ((BG3 : MR S1x512x256).view.read (Elt F) f)
  unfold slot owns
  iexists f
  isplitr; · ipureintro; rfl
  rw [BG3_set]; iexact H
theorem BG3_back (c : Dev nD) : (anyS c BG3 : sProp 𝕄) ⊢ iprop(∃ f : Buf (Elt F) ((c : Thread nD τ).loc cc0_scratch5), ((c : Thread nD τ).loc cc0_scratch5) ↦[cut4 3]{fullShare} f) := by
  unfold anyS slot owns
  iintro ⟨%w, %f, -, H⟩
  iexists f
  rw [BG3_set]; iexact H

theorem split_BG (c : Dev nD) : iprop(∃ f : Buf (Elt F) ((c : Thread nD τ).loc cc0_scratch5), ((c : Thread nD τ).loc cc0_scratch5) ↦{fullShare} f)
    ⊢ (iprop(anyS c BG0 ∗ anyS c BG1 ∗ anyS c BG2 ∗ anyS c BG3) : sProp 𝕄) := by
  iintro ⟨%f, H⟩
  ihave H' := (Entails.of_eq ((Ring.pointsTo_blocks (Ix := Unit) (Name := ℕ) (U := UU) (Lvl := ℕ) (q := fullShare) (ℓ := (c : Thread nD τ).loc cc0_scratch5) cut4 cut4_disjoint cut4_cover f).trans (sep_fin4 _))) $$ H
  icases H' with ⟨H0, H1, H2, H3⟩
  isplitl [H0]; · iapply (BG0_of c f); iexact H0
  isplitl [H1]; · iapply (BG1_of c f); iexact H1
  isplitl [H2]; · iapply (BG2_of c f); iexact H2
  iapply (BG3_of c f); iexact H3

theorem join_BG (c : Dev nD) : (iprop(anyS c BG0 ∗ anyS c BG1 ∗ anyS c BG2 ∗ anyS c BG3) : sProp 𝕄)
    ⊢ iprop(∃ f : Buf (Elt F) ((c : Thread nD τ).loc cc0_scratch5), ((c : Thread nD τ).loc cc0_scratch5) ↦{fullShare} f) := by
  iintro ⟨H0, H1, H2, H3⟩
  ihave G0 := (BG0_back (F := F) c) $$ H0
  ihave G1 := (BG1_back (F := F) c) $$ H1
  ihave G2 := (BG2_back (F := F) c) $$ H2
  ihave G3 := (BG3_back (F := F) c) $$ H3
  icases G0 with ⟨%f0, G0⟩
  iapply (Ring.pointsTo_blocks_join_exists (Ix := Unit) (Name := ℕ) (U := UU) (Lvl := ℕ) (q := fullShare) (ℓ := (c : Thread nD τ).loc cc0_scratch5) cut4 cut4_disjoint cut4_cover f0)
  rw [sep_fin4]
  isplitl [G0]; · iexists f0; iexact G0
  isplitl [G1]; · iexact G1
  isplitl [G2]; · iexact G2
  iexact G3

end Cert.KernelIdeal.Moe

end
-- ==== Proof.Ideal.Ghost.lean ====
module

public import proofs.«01_k».proof.Proof.Ideal.Scratch

@[expose] public section

set_option maxRecDepth 16384

noncomputable section

/-! # The exchange's ghost state at launch

The cells are funded device by device; every cell's invariant is opened to all, and the tokens of the duties are dealt
out to the devices that pay them. The credit launched with a device is what its neighbours owe its cells. -/

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cells and tokens -/

theorem ownSemFacts : Pipeline.OwnSemFacts cfg0.spec osem := by decide

theorem csem_injective : Function.Injective csem := by decide

theorem kcell_injective : Function.Injective (kcell : KI → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl

def moeCells : Finset (GSem nD τ sig) := Finset.univ.map ⟨kcell, kcell_injective⟩

/-- The duties of a device's own cells: the barrier's two, and one of each send and receive cell. -/
abbrev TI : Type := Bool ⊕ (Fin 12 × Bool)
abbrev tokOf (ct : Dev nD × TI) : GSem nD τ sig × ℕ × Bool := match ct.2 with
  | .inl b => (barCell ct.1, 0, b)
  | .inr k => (((ct.1 : Dev nD) : Thread nD τ), osem k) |> fun g => (g, 0, false)

abbrev tokSem : TI → SemLoc sig × Bool := fun | .inl b => (.reg barS, b) | .inr k => (osem k, false)
theorem tokSem_injective : Function.Injective tokSem := by decide

theorem tokOf_injective : Function.Injective (tokOf : Dev nD × TI → GSem nD τ sig × ℕ × Bool) := by
  rintro ⟨c, t⟩ ⟨c', t'⟩ h
  have h1 : c = c' := by
    have := congrArg (fun x : GSem nD τ sig × ℕ × Bool => x.1.1.1) h
    rcases t with t | t <;> rcases t' with t' | t' <;> exact this
  have h2 : t = t' := tokSem_injective (by
    have := congrArg (fun x : GSem nD τ sig × ℕ × Bool => (x.1.2, x.2.2)) h
    rcases t with t | t <;> rcases t' with t' | t' <;> exact this)
  subst h1; subst h2; rfl

def moeToks : Finset (GSem nD τ sig × ℕ × Bool) := Finset.univ.map ⟨tokOf, tokOf_injective⟩

def u₀ : UU :=
  (initOf (Pipeline.cells cfgs cellOf_inj) (Pipeline.launchToks cfgs cellOf_inj), initOf moeCells moeToks)

/-! ## Sums over the indices -/

theorem sep_bool (Φ : Bool → sProp 𝕄) : bigSep Finset.univ Φ = iprop(Φ false ∗ Φ true) := by
  rw [bigSep_univ_eq_bigSepL [false, true] (by decide) (by decide)]
  simp only [bigSepL_cons_cons, bigSepL_singleton]
  rfl

theorem sep_pairs (Φ : Fin 12 × Bool → sProp 𝕄) :
    bigSep Finset.univ Φ = bigSep Finset.univ fun x : Fin 12 => iprop(Φ (x, false) ∗ Φ (x, true)) := by
  rw [bigSep_univ_prod]
  exact bigSep_congr fun x _ => sep_bool _

theorem sep_option {T : Type} [Fintype T] [DecidableEq T] (Φ : Option T → sProp 𝕄) :
    bigSep Finset.univ Φ = iprop(Φ none ∗ bigSep Finset.univ fun t : T => Φ (some t)) := by
  rw [bigSep_univ_equiv (Equiv.optionEquivSumPUnit.{0} T).symm, bigSep_univ_sum]
  rw [show (Finset.univ : Finset PUnit.{1}) = {PUnit.unit} from rfl, bigSep_singleton]
  have swap (P Q : sProp 𝕄) : iprop(P ∗ Q) ⊢ iprop(Q ∗ P) := by iintro ⟨H, K⟩; isplitl [K] <;> iassumption
  exact Entails.antisymm (swap _ _) (swap _ _)

/-! ## What is launched -/

variable (I : Dev nD → DevIn F)

/-- The tokens of device `c`'s own cells. -/
def toks (c : Dev nD) : sProp 𝕄 :=
  iprop((dutyTok ER (barCell c) 0 false ∗ dutyTok ER (barCell c) 0 true)
    ∗ bigSep Finset.univ fun x : Fin 12 => iprop(dutyTok ER (sendCell x c) 0 false ∗ dutyTok ER (recvCell x c) 0 false))

/-- The tokens of the duties it pays. -/
def pays (c : Dev nD) : sProp 𝕄 :=
  iprop((dutyTok ER (barCell (nxt c)) 0 false ∗ dutyTok ER (barCell (prv c)) 0 true)
    ∗ bigSep Finset.univ fun x : Fin 12 => iprop(dutyTok ER (sendCell x c) 0 false ∗ dutyTok ER (recvCell x (peer x c)) 0 false))

/-- Its positions at its own cells. -/
def ats (c : Dev nD) : sProp 𝕄 := bigSep Finset.univ fun k : Option (Fin 12 × Bool) => atPos ER (kcell (c, k)) 0 ∅ 0

def G (c : Dev nD) : sProp 𝕄 :=
  iprop((bigSep Finset.univ fun k : Option (Fin 12 × Bool) => roundState ER (rd I) (kcell (c, k)) 0)
    ∗ (ats c ∗ bigSep Finset.univ fun k : Option (Fin 12 × Bool) => reached ER (kcell (c, k)) 0) ∗ toks c)

def G' (c : Dev nD) : sProp 𝕄 := iprop(∃ K, records I K ∗ ats c ∗ pays c)

theorem fund_moe : BI.own (ER (initOf moeCells moeToks)) ⊢ (|==> bigSep Finset.univ (G I) : sProp 𝕄) := by
  have hX (Φ : GSem nD τ sig → sProp 𝕄) : bigSep moeCells Φ
      = bigSep Finset.univ fun c : Dev nD => bigSep Finset.univ fun k : Option (Fin 12 × Bool) => Φ (kcell (c, k)) := by
    unfold moeCells; rw [bigSep_map, bigSep_univ_prod]; rfl
  have hT : bigSep moeToks (fun x => (dutyTok ER x.1 x.2.1 x.2.2 : sProp 𝕄)) = bigSep Finset.univ fun c : Dev nD => toks c := by
    unfold moeToks; rw [bigSep_map, bigSep_univ_prod]
    exact bigSep_congr fun c _ => by unfold toks; rw [bigSep_univ_sum, sep_bool, sep_pairs]; rfl
  iintro HX
  imod (Rounds.fund ER (rd I) moeCells moeToks) $$ HX with ⟨Hst, Hr, Hat, Htok⟩
  imodintro
  ihave Hst' := (Entails.of_eq (hX fun g => roundState ER (rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · unfold ats; iexact Hat'
    · iexact Hr'
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun x : Fin 12 => kit3 x c := by
  unfold Pipeline.ownSems0; rw [sep_pairs]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 12 × Bool) => semVal (kcell (c, k)) 0 : sProp 𝕄) := by
  rw [unscopedSems0_eq, sep_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : Option (Fin 12 × Bool) => iprop(∃ κ : ℕ, cellInv ER (rd I) κ (kcell (c, k))))
          ∗ (ats c ∗ bigSep Finset.univ fun k : Option (Fin 12 × Bool) => reached ER (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 12 × Bool) => semVal (kcell (c, k)) 0)
        ∗ bigSep Finset.univ fun k : Option (Fin 12 × Bool) => roundState ER (rd I) (kcell (c, k)) 0)
      ⊢ (|={Set.univ}=> bigSep Finset.univ fun k : Option (Fin 12 × Bool) => iprop(∃ κ : ℕ, cellInv ER (rd I) κ (kcell (c, k))) : sProp 𝕄) from by
        rw [← bigSep_sep']
        exact (bigSep_mono fun k _ => (Rounds.body_intro ER (rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

theorem bars_around : (bigSep Finset.univ fun c : Dev nD => iprop(dutyTok ER (barCell c) 0 false ∗ dutyTok ER (barCell c) 0 true) : sProp 𝕄)
    = bigSep Finset.univ fun c : Dev nD => iprop(dutyTok ER (barCell (nxt c)) 0 false ∗ dutyTok ER (barCell (prv c)) 0 true) := by
  rw [bigSep_sep', bigSep_sep', bigSep_univ_equiv ring (fun c : Dev nD => (dutyTok ER (barCell c) 0 false : sProp 𝕄)),
    bigSep_univ_equiv ring.symm (fun c : Dev nD => (dutyTok ER (barCell c) 0 true : sProp 𝕄))]
  rfl

theorem recvs_around (x : Fin 12) : (bigSep Finset.univ fun c : Dev nD => iprop(dutyTok ER (sendCell x c) 0 false ∗ dutyTok ER (recvCell x c) 0 false) : sProp 𝕄)
    = bigSep Finset.univ fun c : Dev nD => iprop(dutyTok ER (sendCell x c) 0 false ∗ dutyTok ER (recvCell x (peer x c)) 0 false) := by
  rw [bigSep_sep', bigSep_sep', bigSep_univ_equiv (pairing x) (fun c : Dev nD => (dutyTok ER (recvCell x c) 0 false : sProp 𝕄))]
  rfl

theorem toks_around : (bigSep Finset.univ fun c : Dev nD => (toks c : sProp 𝕄)) = bigSep Finset.univ fun c : Dev nD => pays c := by
  unfold toks pays
  refine (bigSep_sep' _ _ _).trans (Eq.trans ?_ (bigSep_sep' _ _ _).symm)
  rw [bars_around, bigSep_univ_comm, bigSep_congr fun x _ => recvs_around (F := F) x, bigSep_univ_comm]

theorem with_shared {T : Type} [DecidableEq T] {S : Finset T} {R : sProp 𝕄} [BI.Persistent R] {Φ Ψ : T → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Option (Fin 12 × Bool) => iprop(∃ κ : ℕ, cellInv ER (rd I) κ (kcell (c, k))))
          ∗ (ats c ∗ bigSep Finset.univ fun k : Option (Fin 12 × Bool) => reached ER (kcell (c, k)) 0) ∗ toks c) : sProp 𝕄)
      ⊢ bigSep Finset.univ (G' I) := by
  rw [bigSep_sep', bigSep_sep', bigSep_sep', ← bigSep_univ_prod (fun ck : KI => iprop(∃ κ : ℕ, cellInv ER (rd I) κ (kcell ck))),
    ← bigSep_univ_prod (fun ck : KI => (reached ER (kcell ck) 0 : sProp 𝕄)), toks_around]
  iintro ⟨HI, ⟨Hat, #HR⟩, Htok⟩
  ihave HK := (BI.bigSep_exists_pi Finset.univ (fun (ck : KI) (κ : ℕ) => (cellInv ER (rd I) κ (kcell ck) : sProp 𝕄))) $$ HI
  icases HK with ⟨%K, #HI⟩
  iapply (with_shared (R := records I K) (Φ := fun c : Dev nD => iprop(ats c ∗ pays c)) (Ψ := G' I) (S := Finset.univ) fun c _ => by
    unfold G'
    iintro H
    iexists K
    iexact H)
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credit launched -/

theorem due_all (c : Dev nD) : due c 0 = ∑ x : Fin 12, tallyAt (recvCell x (peer x c)) () N := by
  unfold due
  rw [Finset.filter_true_of_mem fun x _ => Nat.zero_le _]

theorem creds (c : Dev nD) :
    (Pipeline.launchCred O₀ c : sProp 𝕄) ⊢ iprop(cred (tallyAt (barCell c) () 2) ∗ bigSep Finset.univ fun x : Fin 12 => cred (tallyAt (recvCell x c) () N)) := by
  rw [show O₀ = fun d : Dev nD => O₁ d + tallyAt (barCell (prv d)) () 1 from rfl, Pipeline.launchCred_add,
    show O₁ = fun d : Dev nD => due d 0 + tallyAt (barCell (nxt d)) () 1 from rfl, Pipeline.launchCred_add,
    show (fun d : Dev nD => due d 0) = fun d : Dev nD => ∑ x : Fin 12, tallyAt (recvCell x (peer x d)) () N from funext due_all,
    Pipeline.launchCred_sum Finset.univ (fun (x : Fin 12) (d : Dev nD) => tallyAt (recvCell x (peer x d)) () N)]
  iintro ⟨⟨HR, H1⟩, H2⟩
  ihave G1 := (Pipeline.launchCred_tallyAt (SemLoc.reg barS) nxt prv nxt_prv prv_nxt () 1 c) $$ H1
  ihave G2 := (Pipeline.launchCred_tallyAt (SemLoc.reg barS) prv nxt prv_nxt nxt_prv () 1 c) $$ H2
  isplitl [G1 G2]
  · rw [show (tallyAt (barCell c) () 2 : CellTallies nD τ sig Unit) = tallyAt (barCell c) () 1 + tallyAt (barCell c) () 1 from by
      rw [show (2 : ℕ) = 1 + 1 from rfl]; exact (tallyAt_add _ _ _ _).symm]
    iapply (cred_add _ _).2
    isplitl [G1] <;> iassumption
  · iapply (show (bigSep Finset.univ fun x : Fin 12 => Pipeline.launchCred (fun d : Dev nD => tallyAt (recvCell x (peer x d)) () N) c : sProp 𝕄)
        ⊢ bigSep Finset.univ fun x : Fin 12 => cred (tallyAt (recvCell x c) () N) from
      bigSep_mono fun (x : Fin 12) _ => Pipeline.launchCred_tallyAt (SemLoc.dma (recvQ x)) (peer x) (sndr x) (peer_sndr x) (sndr_peer x) () N c)
    iexact HR

/-- A device's own share at launch. -/
theorem linear_intro (c : Dev nD) :
    iprop(ats c ∗ pays c ∗ cred (tallyAt (barCell c) () 2) ∗ bigSep Finset.univ fun x : Fin 12 => cred (tallyAt (recvCell x c) () N))
      ⊢ (linear c : sProp 𝕄) := by
  unfold ats pays linear kit0
  rw [sep_option, sep_pairs]
  simp only [bigSep_sep']
  iintro ⟨⟨H1, H2, H3⟩, ⟨⟨H4, H5⟩, H6, H7⟩, H8, H9⟩
  isplitl [H1]; · iexact H1
  isplitl [H4]; · iexact H4
  isplitl [H5]; · iexact H5
  isplitl [H8]; · iexact H8
  isplitl [H2]; · iexact H2
  isplitl [H3]; · iexact H3
  isplitl [H6]; · iexact H6
  isplitl [H7]; · iexact H7
  iexact H9

end Cert.KernelIdeal.Moe

end
-- ==== Proof.Ideal.Out.lean ====
module

public import proofs.«01_k».proof.Proof.Ideal.Body

@[expose] public section

set_option maxRecDepth 16384

noncomputable section

/-! # The result in closed form -/

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Which row half, which column chunk, and where in the block an element of the result lies. -/
def hOf (i : S1024x1024.Idx) : Fin 2 := ⟨(i 0).val / 512, Nat.div_lt_of_lt_mul (i 0).isLt⟩
def qOf (i : S1024x1024.Idx) : Dev nD := ⟨(i 1).val / 256, Nat.div_lt_of_lt_mul (i 1).isLt⟩
def xOf (i : S1024x1024.Idx) : S512x256.Idx := fun
  | 0 => ⟨(i 0).val % 512, Nat.mod_lt _ (by decide)⟩
  | 1 => ⟨(i 1).val % 256, Nat.mod_lt _ (by decide)⟩

/-- Block (row half `h`, chunk `q`) of the result on device `c`: the chunk it finished itself as accumulated, the others
    as the device that finished them packed them. -/
def blk (I : Dev nD → DevIn F) (c : Dev nD) (h : Fin 2) (q : Dev nD) : FVec F S512x256 .f32 :=
  if h = 0 then (if q = rot 1 c then accA I c else unpack (ya3 I (prv q)))
  else (if q = rot 3 c then accB I c else unpack (yb3 I (nxt q)))

/-- The result on device `c`. -/
def outC (I : Dev nD → DevIn F) (c : Dev nD) : FVec F S1024x1024 .f32 := fun i => blk I c (hOf i) (qOf i) (xOf i)

theorem emb_xOf (i : S1024x1024.Idx) (h : Fin 2) (q : Dev nD) (hh : h = hOf i) (hq : q = qOf i) :
    (Rect.unit (s := S1024x1024) ![512 * h.val, 256 * q.val] S512x256.size (inbO h q)).emb (xOf i) = i := by
  subst hh hq
  funext a
  refine Fin.ext ?_
  rw [Rect.emb_apply]
  fin_cases a
  · show 512 * ((i 0).val / 512) + 1 * ((i 0).val % 512) = (i 0).val; omega
  · show 256 * ((i 1).val / 256) + 1 * ((i 1).val % 256) = (i 1).val; omega

theorem stO_apply {c : Dev nD} (f : Buf (Elt F) ((c : Thread nD τ).loc cc0_stg4_0)) (h : Fin 2) (q : Dev nD) (w : FVec F S512x256 .f32) (i : S1024x1024.Idx) :
    (stO f h q w : S1024x1024.Idx → Elt F .f32) i = if h = hOf i ∧ q = qOf i then w (xOf i) else (f : S1024x1024.Idx → Elt F .f32) i := by
  unfold stO
  split
  · next hc =>
    have e := emb_xOf i h q hc.1 hc.2
    have := View.write_emb_of_mem (Val := Elt F) (v := (Memref.whole cc0_stg4_0 : Memref sig .tc .vmem S1024x1024 .f32).access (Rect.unit (s := S1024x1024) ![512 * h.val, 256 * q.val] S512x256.size (inbO h q)))
      f w (M := Finset.univ) (Finset.mem_univ (xOf i))
    have e' : ((Memref.whole cc0_stg4_0 : Memref sig .tc .vmem S1024x1024 .f32).access (Rect.unit (s := S1024x1024) ![512 * h.val, 256 * q.val] S512x256.size (inbO h q))).emb (xOf i) = i := e
    rw [e'] at this
    exact this
  · next hc =>
    refine View.write_of_not_mem (Val := Elt F) _ _ _ ?_
    intro hm
    obtain ⟨x, -, hx⟩ := Finset.mem_map.mp hm
    have h0 : 512 * h.val + 1 * (x 0).val = (i 0).val := congrArg (fun j : S1024x1024.Idx => (j 0).val) hx
    have h1 : 256 * q.val + 1 * (x 1).val = (i 1).val := congrArg (fun j : S1024x1024.Idx => (j 1).val) hx
    have x0 : (x 0).val < 512 := (x 0).isLt
    have x1 : (x 1).val < 256 := (x 1).isLt
    exact hc ⟨Fin.ext (by show h.val = (i 0).val / 512; omega), Fin.ext (by show q.val = (i 1).val / 256; omega)⟩

theorem rot_cases : ∀ c q : Dev nD, q = c ∨ q = rot 1 c ∨ q = rot 2 c ∨ q = rot 3 c := by decide
theorem rot_ne (c : Dev nD) : c ≠ rot 1 c ∧ c ≠ rot 2 c ∧ c ≠ rot 3 c ∧ rot 1 c ≠ rot 2 c ∧ rot 1 c ≠ rot 3 c ∧ rot 2 c ≠ rot 3 c := by
  revert c; decide
theorem prv_prv (c : Dev nD) : prv (prv c) = rot 2 c := by revert c; decide
theorem nxt_nxt (c : Dev nD) : nxt (nxt c) = rot 2 c := by revert c; decide

theorem outOver_eq (I : Dev nD → DevIn F) {c : Dev nD} (f0 : Buf (Elt F) ((c : Thread nD τ).loc cc0_stg4_0)) : outOver I f0 = outC I c := by
  funext i
  show (outOver I f0 : S1024x1024.Idx → Elt F .f32) i = outC I c i
  unfold outOver outC blk
  simp only [stO_apply]
  generalize hOf i = h
  generalize hq : qOf i = q
  generalize xOf i = x
  obtain ⟨n1, n2, n3, n4, n5, n6⟩ := rot_ne c
  have e8 : Y I 8 (rot 3 c) = ya3 I (prv (rot 3 c)) := rfl
  have e10 : Y I 10 (rot 3 c) = ya3 I (prv (rot 2 c)) := by rw [← prv_prv]; rfl
  have e9 : Y I 9 (rot 1 c) = yb3 I (nxt (rot 1 c)) := rfl
  have e11 : Y I 11 (rot 1 c) = yb3 I (nxt (rot 2 c)) := by rw [← nxt_nxt]; rfl
  have e6 : Y I 6 (rot 3 c) = ya3 I (prv c) := rfl
  have e7 : Y I 7 (rot 1 c) = yb3 I (nxt c) := rfl
  rw [e8, e10, e9, e11, e6, e7]
  rcases rot_cases c q with rfl | rfl | rfl | rfl <;> fin_cases h <;>
    simp [n1, n2, n3, n4, n5, n6, n1.symm, n2.symm, n3.symm, n4.symm, n5.symm, n6.symm]

end Cert.KernelIdeal.Moe

end
-- ==== Proof.Ideal.Launch.lean ====
module

public import proofs.«01_k».proof.Proof.Ideal.Ghost
public import proofs.«01_k».proof.Proof.Ideal.Out
public import Idealize.ShloMosaic.Lib.Quiescent
public import proofs.«01_k».proof.Proof.Gen.KernelIdeal.Points
public import Idealize.ShloMosaic.Lib.Pipeline.CollectiveSegs

@[expose] public section

set_option maxRecDepth 16384

noncomputable section

/-! # The launch and the run

Each device's four inputs are staged whole, its body runs, and its result array is written back whole. -/

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
abbrev st₀ : MemSt nD τ sig (Elt F) := ⟨m, fun _ => 0, ρ⟩

/-- Device `c`'s inputs, as staged. -/
def inOf (c : Dev nD) : DevIn F where
  fx := (win0_0.blk (0 : Fin 1)).view.read (Elt F) (m ((c : Thread nD τ).loc main_arg0))
  fr := (win0_1.blk (0 : Fin 1)).view.read (Elt F) (m ((c : Thread nD τ).loc main_arg1))
  fi := (win0_2.blk (0 : Fin 1)).view.read (Elt F) (m ((c : Thread nD τ).loc main_arg2))
  fw := (win0_3.blk (0 : Fin 1)).view.read (Elt F) (m ((c : Thread nD τ).loc main_arg3))

/-- What device `c`'s body starts from, -/
def start (c : Dev nD) : sProp 𝕄 :=
  iprop(G' (inOf m) c ∗ cred (tallyAt (barCell c) () 2) ∗ (bigSep Finset.univ fun x : Fin 12 => cred (tallyAt (recvCell x c) () N)) ∗ levAts L lv)
/-- with its scratch. -/
def Φ₀ (c : Dev nD) : sProp 𝕄 := iprop(start m c ∗ Pipeline.scopedRest (Ix := Unit) (Name := ℕ) (U := UU) (Lvl := ℕ) (Val := Elt F) cfg0.spec c)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => (inOf m c).fx
    | ⟨1, _⟩ => (inOf m c).fr
    | ⟨2, _⟩ => (inOf m c).fi
    | ⟨3, _⟩ => (inOf m c).fw
    | ⟨4, _⟩ => outC (inOf m) c
  Φ t := match t with
    | ⟨0, _⟩ => Φ₀ m c
    | ⟨_ + 1, _⟩ => done c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- Device `c` holds window `b` at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem held_intro (c : Dev nD) :
    iprop(linear c ∗ Pipeline.scopedRest (Ix := Unit) (Name := ℕ) (U := UU) (Lvl := ℕ) (Val := Elt F) cfg0.spec c) ⊢ (held c : sProp 𝕄) := by
  rw [scopedRest0_eq]
  iintro ⟨HL, H0, H1, H2, H3, H4, H5⟩
  ihave K0 := (split_AS (F := F) c) $$ H0
  ihave K1 := (split_AR (F := F) c) $$ H1
  ihave K2 := (split_AG (F := F) c) $$ H2
  ihave K3 := (split_BS (F := F) c) $$ H3
  ihave K4 := (split_BR (F := F) c) $$ H4
  ihave K5 := (split_BG (F := F) c) $$ H5
  icases K0 with ⟨A0, A1, A2⟩
  icases K1 with ⟨R0, R1, R2⟩
  icases K2 with ⟨G0, G1, G2, G3⟩
  icases K3 with ⟨B0, B1, B2⟩
  icases K4 with ⟨S0, S1, S2⟩
  icases K5 with ⟨T0, T1, T2, T3⟩
  unfold held landA landB free
  isplitl [HL]; · iexact HL
  isplitl [R0 R1 R2 G1 G2 G3]
  · isplitl [R0]; · iexact R0
    isplitl [R1]; · iexact R1
    isplitl [R2]; · iexact R2
    isplitl [G1]; · iexact G1
    isplitl [G2]; · iexact G2
    iexact G3
  isplitl [S0 S1 S2 T1 T2 T3]
  · isplitl [S0]; · iexact S0
    isplitl [S1]; · iexact S1
    isplitl [S2]; · iexact S2
    isplitl [T1]; · iexact T1
    isplitl [T2]; · iexact T2
    iexact T3
  isplitl [A0]; · iexact A0
  isplitl [A1]; · iexact A1
  isplitl [A2]; · iexact A2
  isplitl [G0]; · iexact G0
  isplitl [B0]; · iexact B0
  isplitl [B1]; · iexact B1
  isplitl [B2]; · iexact B2
  iexact T0

theorem done_elim (c : Dev nD) :
    (done c : sProp 𝕄) ⊢ iprop(semVal (barCell c) 0 ∗ (bigSep Finset.univ fun x : Fin 12 => kit3 x c)
      ∗ Pipeline.scopedRest (Ix := Unit) (Name := ℕ) (U := UU) (Lvl := ℕ) (Val := Elt F) cfg0.spec c) := by
  rw [scopedRest0_eq]
  unfold done
  iintro ⟨HB, HK, A0, A1, A2, R0, R1, R2, G0, G1, G2, G3, B0, B1, B2, S0, S1, S2, T0, T1, T2, T3⟩
  isplitl [HB]; · iexact HB
  isplitl [HK]; · iexact HK
  isplitl [A0 A1 A2]
  · iapply (join_AS (F := F) c)
    isplitl [A0]; · iexact A0
    isplitl [A1]; · iexact A1
    iexact A2
  isplitl [R0 R1 R2]
  · iapply (join_AR (F := F) c)
    isplitl [R0]; · iexact R0
    isplitl [R1]; · iexact R1
    iexact R2
  isplitl [G0 G1 G2 G3]
  · iapply (join_AG (F := F) c)
    isplitl [G0]; · iexact G0
    isplitl [G1]; · iexact G1
    isplitl [G2]; · iexact G2
    iexact G3
  isplitl [B0 B1 B2]
  · iapply (join_BS (F := F) c)
    isplitl [B0]; · iexact B0
    isplitl [B1]; · iexact B1
    iexact B2
  isplitl [S0 S1 S2]
  · iapply (join_BR (F := F) c)
    isplitl [S0]; · iexact S0
    isplitl [S1]; · iexact S1
    iexact S2
  iapply (join_BG (F := F) c)
  isplitl [T0]; · iexact T0
  isplitl [T1]; · iexact T1
  isplitl [T2]; · iexact T2
  iexact T3

def bodyPre (c : Dev nD) : sProp 𝕄 :=
  iprop(Φ₀ m c ∗ (dats m ρ 0 c).owesAt () t0_0.castSucc ∗ (∃ d, stg c cc0_stg0_0 ((dats m ρ 0 c).before (0 : Fin 5) t0_0 d)) ∗ (∃ d, stg c cc0_stg1_0 ((dats m ρ 0 c).before (1 : Fin 5) t0_0 d)) ∗ (∃ d, stg c cc0_stg2_0 ((dats m ρ 0 c).before (2 : Fin 5) t0_0 d)) ∗ (∃ d, stg c cc0_stg3_0 ((dats m ρ 0 c).before (3 : Fin 5) t0_0 d)) ∗ (∃ d, stg c cc0_stg4_0 ((dats m ρ 0 c).before (4 : Fin 5) t0_0 d)))

def bodyPost (c : Dev nD) : sProp 𝕄 :=
  iprop(done c ∗ (dats m ρ 0 c).owesAt () t0_0.succ ∗ stg c cc0_stg0_0 (inOf m c).fx ∗ stg c cc0_stg1_0 (inOf m c).fr ∗ stg c cc0_stg2_0 (inOf m c).fi ∗ stg c cc0_stg3_0 (inOf m c).fw ∗ stg c cc0_stg4_0 (outC (inOf m) c))

theorem body_run (c : Dev nD) : bodyPre m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _)
        cc0_scratch6 cc0_scratch7 cc0_scratch8 cc0_scratch9 cc0_scratch10 cc0_scratch11 cc0_scratch12 cc0_scratch13) (fun _ => bodyPost m ρ c) := by
  unfold bodyPre Φ₀ start G' Dat.owesAt Pipeline.owesWithin
  rw [show (dats m ρ 0 c).owed t0_0.castSucc = O₀ c from rfl]
  iintro ⟨⟨⟨⟨%K, #HR, Hat, Hpay⟩, Hcb, Hcr, #HL⟩, Hs⟩, ⟨%W, %hW, HO⟩, ⟨%d0, %g0, %hg0, H0⟩, ⟨%d1, %g1, %hg1, H1⟩, ⟨%d2, %g2, %hg2, H2⟩, ⟨%d3, %g3, %hg3, H3⟩, ⟨%d4, %g4, %hg4, H4⟩⟩
  have h0 : g0 = (inOf m c).fx := by rw [hg0]; unfold Dat.before; rw [if_pos (fetch0_0 t0_0)]; rfl
  subst h0
  have h1 : g1 = (inOf m c).fr := by rw [hg1]; unfold Dat.before; rw [if_pos (fetch0_1 t0_0)]; rfl
  subst h1
  have h2 : g2 = (inOf m c).fi := by rw [hg2]; unfold Dat.before; rw [if_pos (fetch0_2 t0_0)]; rfl
  subst h2
  have h3 : g3 = (inOf m c).fw := by rw [hg3]; unfold Dat.before; rw [if_pos (fetch0_3 t0_0)]; rfl
  subst h3
  ihave Hl := (linear_intro (F := F) c) $$ [Hat Hpay Hcb Hcr]
  · isplitl [Hat]; · iexact Hat
    isplitl [Hpay]; · iexact Hpay
    isplitl [Hcb]; · iexact Hcb
    iexact Hcr
  ihave Hh := (held_intro (F := F) c) $$ [Hl Hs]
  · isplitl [Hl]; · iexact Hl
    iexact Hs
  iapply (body_ok (inOf m) K c g4 (fun _ => bodyPost m ρ c)) $$ [HO H0 H1 H2 H3 H4 Hh]
  · isplitr; · iexact HR
    isplitr; · iexact HL
    isplitl [H0]; · iexact H0
    isplitl [H1]; · iexact H1
    isplitl [H2]; · iexact H2
    isplitl [H3]; · iexact H3
    isplitl [H4]; · iexact H4
    isplitl [Hh]; · iexact Hh
    unfold ow
    iexists W
    iexact HO
  rw [outOver_eq]
  unfold bodyPost Dat.owesAt Pipeline.owesWithin ow
  rw [show (dats m ρ 0 c).owed t0_0.succ = 0 from rfl]
  iintro ⟨H0, H1, H2, H3, H4, Hd, ⟨%W', HO⟩⟩
  isplitl [Hd]; · iexact Hd
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

theorem body_obligation (c : Dev nD) : BodyObligation (dats (F := F) m ρ 0 c) (defs₀ (F := F)) 𝒱₀ () Set.univ := fun t => by
  rw [fin_N0 t]
  rw [bigSep_W, bigSep_W]
  simp only [owns_all]
  exact body_run m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inOf m) c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = done c from rfl, ownSems0_eq, unscopedSems0_eq]
  exact done_elim c

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Window `w`'s array at the end. -/
def finalA (c : Dev nD) (w : Fin cfg0.W) : Buf (Elt F) ((cfg0.win w).arr.view.loc (c : Thread nD τ)) := (dats m ρ 0 c).arrAt w cfg0.N

/-- Every fair run from zero counters ends, with each window's array at its final contents and every counter at zero. -/
theorem run_arrays : θ_run defs (onTc (τ := τ) (main (F := F))) (st₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inOf m)) (G' := G' (inOf m)) (u₀ := u₀)
    (hu₀ := by
      unfold u₀
      iintro Hu
      ihave H := (ownU_pair _ _) $$ Hu
      icases H with ⟨HP, HX⟩
      imod (fund_moe (inOf m)) $$ HX with HG
      imodintro
      isplitl [HP] <;> iassumption)
    (hglob := glob (inOf m))
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The final arrays -/

theorem finalA_0 (c : Dev nD) : finalA m ρ c (0 : Fin 5) = m ((c : Thread nD τ).loc main_arg0) :=
  (dats (F := F) m ρ 0 c).arrAt_in (0 : Fin 5) rfl _

theorem finalA_1 (c : Dev nD) : finalA m ρ c (1 : Fin 5) = m ((c : Thread nD τ).loc main_arg1) :=
  (dats (F := F) m ρ 0 c).arrAt_in (1 : Fin 5) rfl _

theorem finalA_2 (c : Dev nD) : finalA m ρ c (2 : Fin 5) = m ((c : Thread nD τ).loc main_arg2) :=
  (dats (F := F) m ρ 0 c).arrAt_in (2 : Fin 5) rfl _

theorem finalA_3 (c : Dev nD) : finalA m ρ c (3 : Fin 5) = m ((c : Thread nD τ).loc main_arg3) :=
  (dats (F := F) m ρ 0 c).arrAt_in (3 : Fin 5) rfl _

theorem finalA_4 (c : Dev nD) : finalA m ρ c (4 : Fin 5) = outC (inOf m) c := by
  have hz : (fun a => (win0_4.index (0 : Fin 1)) a * main_v1.ty.shape.size a) = fun _ => 0 :=
    funext fun a => by fin_cases a <;> decide
  refine (Memref.read_access_unit_zero (Elt F) main_v1 hz (fun a => by fin_cases a <;> decide) (finalA m ρ c (4 : Fin 5))).symm.trans ?_
  show (win0_4.blk (0 : Fin 1)).view.read (Elt F) (finalA m ρ c (4 : Fin 5)) = outC (inOf m) c
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

/-- Every fair run ends with each device's inputs as they were, its result computed, and every counter at zero. -/
theorem run_main : θ_run defs (onTc (τ := τ) (main (F := F))) (st₀ m ρ)
    (fun r => (∀ c : Dev nD, r.2.mem ((c : Thread nD τ).loc main_v1) = outC (inOf m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run defs _ _).mono (fun _ h => ⟨fun c => ⟨(h.1 c (4 : Fin 5)).trans (finalA_4 m ρ c),
    (h.1 c (0 : Fin 5)).trans (finalA_0 m ρ c), (h.1 c (1 : Fin 5)).trans (finalA_1 m ρ c),
    (h.1 c (2 : Fin 5)).trans (finalA_2 m ρ c), (h.1 c (3 : Fin 5)).trans (finalA_3 m ρ c)⟩, h.2⟩) (run_arrays m ρ)

/-- What device `c` loads is its argument, read whole. -/
theorem inOf_eq (c : Dev nD) : inOf m c
    = ⟨m ((c : Thread nD τ).loc main_arg0), m ((c : Thread nD τ).loc main_arg1), m ((c : Thread nD τ).loc main_arg2), m ((c : Thread nD τ).loc main_arg3)⟩ := by
  have hz0 : (fun a => (win0_0.index (0 : Fin 1)) a * main_arg0.ty.shape.size a) = fun _ => 0 := funext fun a => by fin_cases a <;> decide
  have hz1 : (fun a => (win0_1.index (0 : Fin 1)) a * main_arg1.ty.shape.size a) = fun _ => 0 := funext fun a => by fin_cases a <;> decide
  have hz2 : (fun a => (win0_2.index (0 : Fin 1)) a * main_arg2.ty.shape.size a) = fun _ => 0 := funext fun a => by fin_cases a <;> decide
  have hz3 : (fun a => (win0_3.index (0 : Fin 1)) a * main_arg3.ty.shape.size a) = fun _ => 0 := funext fun a => by fin_cases a <;> decide
  have h0 := Memref.read_access_unit_zero (Elt F) main_arg0 hz0 (fun a => by fin_cases a <;> decide) (m ((c : Thread nD τ).loc main_arg0))
  have h1 := Memref.read_access_unit_zero (Elt F) main_arg1 hz1 (fun a => by fin_cases a <;> decide) (m ((c : Thread nD τ).loc main_arg1))
  have h2 := Memref.read_access_unit_zero (Elt F) main_arg2 hz2 (fun a => by fin_cases a <;> decide) (m ((c : Thread nD τ).loc main_arg2))
  have h3 := Memref.read_access_unit_zero (Elt F) main_arg3 hz3 (fun a => by fin_cases a <;> decide) (m ((c : Thread nD τ).loc main_arg3))
  unfold inOf
  exact congr (congr (congr (congrArg DevIn.mk h0) h1) h2) h3

end Cert.KernelIdeal.Moe

end
-- ==== Proof.Value.Spec.lean ====
/-
  One token of the mixture of experts over the extended reals: its router scores, their softmax, the two chosen
  experts' shares, and the token's product with the experts' matrices, once weighted before the product and summed
  over all the experts, and once as the chosen experts' products weighted afterwards. The last theorem says that the
  two agree when the token and the router are finite.
-/
module

public import Idealize.ShloMosaic.PureOps.Ideal

@[expose] public section

noncomputable section

namespace Cert.Moe

open Idealize.ShloMosaic
open scoped BigOperators

/-- The token's score for expert `e`. -/
def score (x : Fin 512 → EReal) (r : Fin 512 → Fin 16 → EReal) (e : Fin 16) : EReal := ∑ k, x k * r k e

/-- The greatest score. -/
def top (s : Fin 16 → EReal) : EReal := (Finset.univ : Finset (Fin 16)).fold max ⊥ s

/-- The softmax of the scores. -/
def prob (s : Fin 16 → EReal) (e : Fin 16) : EReal :=
  Ideal.div (Ideal.exp (s e - top s)) (∑ e', Ideal.exp (s e' - top s))

/-- One at the expert that the word names, zero at the others. -/
def hit (i : BitVec 32) (e : Fin 16) : EReal := if i = BitVec.ofNat 32 e.val then 1 else 0

/-- The entry that the word names, zero when it names none. -/
def pick (v : Fin 16 → EReal) (i : BitVec 32) : EReal := if h : i.toNat < 16 then v ⟨i.toNat, h⟩ else 0

/-- The entry that the word names, as a sum over the entries. -/
def gate (v : Fin 16 → EReal) (i : BitVec 32) : EReal := ∑ e : Fin 16, if i = BitVec.ofNat 32 e.val then v e else 0

/-- The first share of two gates. -/
def share (g g' : EReal) : EReal := Ideal.div g (g + g')

/-- What expert `e` weighs for the token. -/
def weight (p : Fin 16 → EReal) (i₀ i₁ : BitVec 32) (e : Fin 16) : EReal :=
  Ideal.div (gate p i₀) (gate p i₀ + gate p i₁) * hit i₀ e + Ideal.div (gate p i₁) (gate p i₀ + gate p i₁) * hit i₁ e

/-- The token weighted for each expert, times that expert's column, summed over all the experts. -/
def mixed (x : Fin 512 → EReal) (w : Fin 16 → EReal) (W : Fin 16 → Fin 512 → EReal) : EReal :=
  ∑ e : Fin 16, ∑ k : Fin 512, x k * w e * W e k

/-- The two chosen experts' products with the token, weighted by their shares. -/
def chosen (x : Fin 512 → EReal) (p : Fin 16 → EReal) (i₀ i₁ : BitVec 32) (W : Fin 16 → Fin 512 → EReal) : EReal :=
  Ideal.div (pick p i₀) (pick p i₀ + pick p i₁) * (∑ k : Fin 512, x k * pick (fun e => W e k) i₀)
    + Ideal.div (pick p i₁) (pick p i₀ + pick p i₁) * (∑ k : Fin 512, x k * pick (fun e => W e k) i₁)

/-- A word names expert `e` just when its number is `e`. -/
theorem word_eq_iff (i : BitVec 32) (e : Fin 16) : i = BitVec.ofNat 32 e.val ↔ i.toNat = e.val := by
  have he : e.val < 2 ^ 32 := lt_of_lt_of_le e.isLt (by norm_num)
  constructor
  · rintro rfl
    rw [BitVec.toNat_ofNat, Nat.mod_eq_of_lt he]
  · intro h
    apply BitVec.eq_of_toNat_eq
    rw [BitVec.toNat_ofNat, Nat.mod_eq_of_lt he, h]

/-- A sum over the experts that a word selects from is the entry that it names. -/
theorem gate_eq_pick (v : Fin 16 → EReal) (i : BitVec 32) : gate v i = pick v i := by
  unfold gate pick
  by_cases h : i.toNat < 16
  · rw [dif_pos h, Finset.sum_eq_single ⟨i.toNat, h⟩]
    · rw [if_pos ((word_eq_iff i ⟨i.toNat, h⟩).2 rfl)]
    · intro e _ hne
      rw [if_neg]
      intro he
      exact hne (Fin.ext ((word_eq_iff i e).1 he).symm)
    · intro hn; exact absurd (Finset.mem_univ _) hn
  · rw [dif_neg h]
    refine Finset.sum_eq_zero fun e _ => if_neg fun he => h ?_
    rw [(word_eq_iff i e).1 he]
    exact e.isLt

/-- A word that names no expert hits none. -/
theorem hit_of_out {i : BitVec 32} (h : ¬ i.toNat < 16) (e : Fin 16) : hit i e = 0 :=
  if_neg fun he => h (by rw [(word_eq_iff i e).1 he]; exact e.isLt)

theorem hit_nonneg (i : BitVec 32) (e : Fin 16) : 0 ≤ hit i e := by
  unfold hit; split
  · exact zero_le_one
  · exact le_refl _

/-- A product with a hit is the value at the expert that is hit. -/
theorem hit_mul (i : BitVec 32) (e : Fin 16) (a : EReal) : hit i e * a = if i = BitVec.ofNat 32 e.val then a else 0 := by
  unfold hit; split
  · exact one_mul a
  · exact zero_mul a

/-! ### A finite factor over a sum -/

/-- A nonnegative real goes through a finite sum of extended reals. -/
theorem coe_mul_sum {ι : Type} (t : Finset ι) (a : ℝ) (ha : 0 ≤ a) (f : ι → EReal) :
    (a : EReal) * ∑ i ∈ t, f i = ∑ i ∈ t, (a : EReal) * f i := by
  classical
  induction t using Finset.induction_on with
  | empty => simp
  | insert i t hi ih =>
      rw [Finset.sum_insert hi, Finset.sum_insert hi, ← ih]
      exact EReal.left_distrib_of_nonneg_of_ne_top (EReal.coe_nonneg.2 ha) (EReal.coe_ne_top a) _ _

/-- One chosen expert's part: the share times the hits, summed over all the experts, is the share times the product
    with the expert that the word names. -/
theorem part_eq (x : Fin 512 → EReal) (W : Fin 16 → Fin 512 → EReal) (i : BitVec 32) (a : ℝ) (ha : 0 ≤ a) :
    ∑ e : Fin 16, ∑ k : Fin 512, (a : EReal) * (hit i e * (x k * W e k)) = (a : EReal) * ∑ k : Fin 512, x k * pick (fun e => W e k) i := by
  rw [Finset.sum_comm, coe_mul_sum _ a ha]
  refine Finset.sum_congr rfl fun k _ => ?_
  rw [← coe_mul_sum _ a ha]
  refine congrArg ((a : EReal) * ·) ?_
  simp only [hit_mul]
  have h : (∑ e : Fin 16, if i = BitVec.ofNat 32 e.val then x k * W e k else 0) = gate (fun e => x k * W e k) i := rfl
  rw [h, gate_eq_pick]
  unfold pick
  split
  · rfl
  · exact (mul_zero _).symm

/-- With finite shares the weighted token's sum over all the experts is the two chosen experts' products, weighted. -/
theorem mixed_eq (x : Fin 512 → EReal) (W : Fin 16 → Fin 512 → EReal) (i₀ i₁ : BitVec 32) (a b : ℝ) (ha : 0 ≤ a) (hb : 0 ≤ b) :
    mixed x (fun e => (a : EReal) * hit i₀ e + (b : EReal) * hit i₁ e) W
      = (a : EReal) * (∑ k : Fin 512, x k * pick (fun e => W e k) i₀) + (b : EReal) * (∑ k : Fin 512, x k * pick (fun e => W e k) i₁) := by
  rw [← part_eq x W i₀ a ha, ← part_eq x W i₁ b hb, ← Finset.sum_add_distrib]
  unfold mixed
  refine Finset.sum_congr rfl fun e _ => ?_
  rw [← Finset.sum_add_distrib]
  refine Finset.sum_congr rfl fun k _ => ?_
  rw [mul_comm (x k), mul_assoc, EReal.right_distrib_of_nonneg (mul_nonneg (EReal.coe_nonneg.2 ha) (hit_nonneg _ _))
    (mul_nonneg (EReal.coe_nonneg.2 hb) (hit_nonneg _ _)), mul_assoc, mul_assoc]

/-- Where neither word names an expert, both forms are zero, whatever the shares. -/
theorem mixed_eq_out (x : Fin 512 → EReal) (W : Fin 16 → Fin 512 → EReal) (i₀ i₁ : BitVec 32) (a b : EReal)
    (h₀ : ¬ i₀.toNat < 16) (h₁ : ¬ i₁.toNat < 16) :
    mixed x (fun e => a * hit i₀ e + b * hit i₁ e) W
      = a * (∑ k : Fin 512, x k * pick (fun e => W e k) i₀) + b * (∑ k : Fin 512, x k * pick (fun e => W e k) i₁) := by
  unfold mixed pick
  simp only [hit_of_out h₀, hit_of_out h₁, dif_neg h₀, dif_neg h₁, mul_zero, zero_mul, add_zero, Finset.sum_const_zero]

/-! ### The softmax of finite scores -/

/-- A finite sum of reals, as extended reals, is the real sum. -/
theorem coe_sum {ι : Type} (t : Finset ι) (f : ι → ℝ) : ∑ i ∈ t, (f i : EReal) = ((∑ i ∈ t, f i : ℝ) : EReal) := by
  classical
  induction t using Finset.induction_on with
  | empty => simp
  | insert i t hi ih => rw [Finset.sum_insert hi, Finset.sum_insert hi, ih, EReal.coe_add]

/-- Finite tokens and routers have finite scores. -/
theorem score_coe {x : Fin 512 → EReal} {r : Fin 512 → Fin 16 → EReal} (hx : ∀ k, ∃ a : ℝ, x k = a)
    (hr : ∀ k e, ∃ a : ℝ, r k e = a) : ∃ s : Fin 16 → ℝ, ∀ e, score x r e = s e := by
  choose a ha using hx
  choose b hb using hr
  refine ⟨fun e => ∑ k, a k * b k e, fun e => ?_⟩
  unfold score
  rw [← coe_sum]
  exact Finset.sum_congr rfl fun k _ => by rw [ha, hb, EReal.coe_mul]

/-- The greatest of finite scores is finite. -/
theorem top_coe (s : Fin 16 → ℝ) : ∃ t : ℝ, top (fun e => (s e : EReal)) = t := by
  have h : ∀ T : Finset (Fin 16), T.fold max (⊥ : EReal) (fun e => (s e : EReal)) = ⊥ ∨ ∃ t : ℝ, T.fold max (⊥ : EReal) (fun e => (s e : EReal)) = t := by
    intro T
    classical
    induction T using Finset.induction_on with
    | empty => exact Or.inl rfl
    | insert i T hi ih =>
        right
        rw [Finset.fold_insert hi]
        rcases ih with h | ⟨t, h⟩
        · exact ⟨s i, by rw [h]; exact max_eq_left bot_le⟩
        · exact ⟨max (s i) t, by rw [h]; exact (EReal.coe_strictMono.monotone.map_max).symm⟩
  rcases h Finset.univ with h | h
  · exfalso
    have h0 : (s 0 : EReal) ≤ top (fun e => (s e : EReal)) :=
      (Finset.le_fold_max _).2 (Or.inr ⟨0, Finset.mem_univ _, le_refl _⟩)
    unfold top at h0
    rw [h] at h0
    exact absurd (le_bot_iff.1 h0) (EReal.coe_ne_bot _)
  · exact h

/-- A quotient of reals by a positive real is the real quotient. -/
theorem div_coe (a b : ℝ) (hb : 0 < b) : Ideal.div (a : EReal) (b : EReal) = ((a / b : ℝ) : EReal) := by
  have hb' : (b : EReal) ≠ 0 := by
    intro h; exact hb.ne' (EReal.coe_eq_zero.1 h)
  unfold Ideal.div
  rw [if_neg hb', ← EReal.coe_inv, ← EReal.coe_mul, div_eq_mul_inv]

/-- The softmax of finite scores is positive and finite. -/
theorem prob_coe (s : Fin 16 → ℝ) : ∃ p : Fin 16 → ℝ, (∀ e, 0 < p e) ∧ ∀ e, prob (fun e => (s e : EReal)) e = p e := by
  obtain ⟨t, ht⟩ := top_coe s
  have he : ∀ e, Ideal.exp ((s e : EReal) - top (fun e => (s e : EReal))) = (Real.exp (s e - t) : ℝ) := by
    intro e; rw [ht, ← EReal.coe_sub]; rfl
  have hs : (0 : ℝ) < ∑ e : Fin 16, Real.exp (s e - t) :=
    Finset.sum_pos (fun e _ => Real.exp_pos _) ⟨0, Finset.mem_univ _⟩
  refine ⟨fun e => Real.exp (s e - t) / ∑ e : Fin 16, Real.exp (s e - t), fun e => div_pos (Real.exp_pos _) hs, fun e => ?_⟩
  unfold prob
  simp only [he]
  rw [coe_sum, div_coe _ _ hs]

/-- The entry that a word names among positive reals is a nonnegative real, and positive if the word names one. -/
theorem pick_coe {p : Fin 16 → EReal} {q : Fin 16 → ℝ} (hq : ∀ e, 0 < q e) (h : ∀ e, p e = q e) (i : BitVec 32) :
    ∃ a : ℝ, 0 ≤ a ∧ (i.toNat < 16 → 0 < a) ∧ pick p i = a := by
  unfold pick
  by_cases hi : i.toNat < 16
  · exact ⟨q ⟨i.toNat, hi⟩, (hq _).le, fun _ => hq _, by rw [dif_pos hi, h]⟩
  · exact ⟨0, le_refl _, fun h' => absurd h' hi, by rw [dif_neg hi]; rfl⟩

/-- A finite token, a finite router: weighting before the products and summing over all the experts is weighting the
    two chosen experts' products. -/
theorem mixed_eq_chosen {x : Fin 512 → EReal} {r : Fin 512 → Fin 16 → EReal} (hx : ∀ k, ∃ a : ℝ, x k = a)
    (hr : ∀ k e, ∃ a : ℝ, r k e = a) (i₀ i₁ : BitVec 32) (W : Fin 16 → Fin 512 → EReal) :
    mixed x (weight (prob (score x r)) i₀ i₁) W = chosen x (prob (score x r)) i₀ i₁ W := by
  obtain ⟨s, hs⟩ := score_coe hx hr
  rw [show score x r = fun e => (s e : EReal) from funext hs]
  obtain ⟨q, hq, hp⟩ := prob_coe s
  generalize prob (fun e => (s e : EReal)) = p at hp ⊢
  unfold chosen weight
  simp only [gate_eq_pick]
  by_cases h₀ : i₀.toNat < 16 ∨ i₁.toNat < 16
  · obtain ⟨a, ha, ha', hpa⟩ := pick_coe hq hp i₀
    obtain ⟨b, hb, hb', hpb⟩ := pick_coe hq hp i₁
    have hab : 0 < a + b := by
      rcases h₀ with h | h
      · exact add_pos_of_pos_of_nonneg (ha' h) hb
      · exact add_pos_of_nonneg_of_pos ha (hb' h)
    rw [hpa, hpb, ← EReal.coe_add, div_coe _ _ hab, div_coe _ _ hab]
    exact mixed_eq x W i₀ i₁ _ _ (div_nonneg ha hab.le) (div_nonneg hb hab.le)
  · rw [not_or] at h₀
    exact mixed_eq_out x W i₀ i₁ _ _ h₀.1 h₀.2

end Cert.Moe

end
-- ==== Proof.Value.Terms.lean ====
/-
  What one device computes, entry by entry, over the extended reals: the softmax of its scores, the weighted tokens for
  each of its experts, and its partial products.
-/
module

public import proofs.«01_k».proof.Proof.Ideal.Out
public import proofs.«01_k».proof.Proof.Value.Spec
public import Idealize.ShloMosaic.Lib.Pointwise

@[expose] public section

set_option maxRecDepth 16384

noncomputable section

namespace Cert.KernelIdeal.Moe

open Idealize.ShloMosaic Idealize.SL.Sem Cert.KernelIdeal Cert.KernelIdeal.Gen Cert.Moe
open scoped BigOperators

variable (D : DevIn Ideal) (c : Dev nD)

theorem ldX_apply (n : Fin 1024) (k : Fin 512) : ldX D (ix2 n k) = D.fx (ix2 n k) := by
  refine congrArg D.fx ?_
  idx_ext

theorem ldR_apply (k : Fin 512) (e : Fin 16) : ldR D (ix2 k e) = D.fr (ix2 k e) := by
  refine congrArg D.fr ?_
  idx_ext

theorem ldI0_apply (n : Fin 1024) : ldI0 D (ix2 n 0) = D.fi (ix2 n 0) := by
  refine congrArg D.fi ?_
  idx_ext

theorem ldI1_apply (n : Fin 1024) : ldI1 D (ix2 n 0) = D.fi (ix2 n 1) := by
  refine congrArg D.fi ?_
  idx_ext

/-- Column `256 q + o` of the whole width. -/
def col (q : Dev nD) (o : Fin 256) : Fin 1024 := ⟨256 * q.val + o.val, by have := q.isLt; have h : nD = 4 := rfl; omega⟩

theorem ldW_apply (e : Fin 4) (q : Dev nD) (k : Fin 512) (o : Fin 256) :
    ldW D e q (ix3 0 k o) = D.fw (ix3 e k (col q o)) := by
  refine congrArg D.fw ?_
  funext a
  refine Fin.ext ?_
  fin_cases a
  · show e.val + 1 * 0 = e.val; omega
  · show 0 + 1 * k.val = k.val; omega
  · show 256 * q.val + 1 * o.val = 256 * q.val + o.val; omega

/-- The pattern of minus infinity. -/
theorem negInf : Ideal.ofBits .f32 0xFF800000#32 = ⊥ := by simp [Ideal.ofBits, Ideal.ieee]

theorem v26_apply (n : Fin 1024) (e : Fin 16) :
    v26 D (ix2 n e) = prob (score (fun k => ldX D (ix2 n k)) (fun k e => ldR D (ix2 k e))) e := by
  unfold prob score top
  pointwise [v26, k0_pay3, k0_pay2, negInf]

/-- A select on an equality of words. -/
theorem sel_eq {α : Type} (i w : BitVec 32) (a b : α) : Scalar.select (IntOp.cmpi .eq i w) a b = if i = w then a else b := by
  by_cases h : i = w
  · subst h; simp [IntOp.cmpi, Scalar.select]
  · have h' : (i == w) = false := by simpa using h
    simp [IntOp.cmpi, Scalar.select, h, h']

/-- The first route's gate, -/
theorem pay6_apply (p : FVec Ideal S1024x16 .f32) (i : IVec S1024x1 32) (n : Fin 1024) :
    k0_pay6 p i (ix2 n 0) = gate (fun e => p (ix2 n e)) (i (ix2 n 0)) := by
  unfold gate
  pointwise [k0_pay6, sel_eq]

/-- and the second's. -/
theorem pay7_apply (p : FVec Ideal S1024x16 .f32) (i : IVec S1024x1 32) (n : Fin 1024) :
    k0_pay7 (F := Ideal) p i (ix2 n 0) = gate (fun e => p (ix2 n e)) (i (ix2 n 0)) := by
  unfold gate
  pointwise [k0_pay7, k0_pay5, sel_eq]

/-- The expert that is the device's `j`th. -/
def ex (c : Dev nD) (j : Fin 4) : Fin 16 := ⟨4 * c.val + j.val, by have := c.isLt; have h : nD = 4 := rfl; omega⟩

theorem gid0 : Scalar.addi (Scalar.muli (myW c) 4#32) 0#32 = BitVec.ofNat 32 (ex c 0).val := by revert c; decide
theorem gid1 : Scalar.addi (Scalar.muli (myW c) 4#32) 1#32 = BitVec.ofNat 32 (ex c 1).val := by revert c; decide
theorem gid2 : Scalar.addi (Scalar.muli (myW c) 4#32) 2#32 = BitVec.ofNat 32 (ex c 2).val := by revert c; decide
theorem gid3 : Scalar.addi (Scalar.muli (myW c) 4#32) 3#32 = BitVec.ofNat 32 (ex c 3).val := by revert c; decide

/-- A comparison with an expert's word, as a float, is the hit. -/
theorem hit_eq (i : BitVec 32) (e : Fin 16) :
    (FloatOps.sitofp (F := Ideal) .f32 ((IntOp.cmpi .eq i (BitVec.ofNat 32 e.val)).setWidth 32) : EReal) = hit i e := by
  unfold hit
  split
  · next h => subst h; simp [IntOp.cmpi, FloatOps.sitofp]
  · next h =>
    have h' : (i == BitVec.ofNat 32 e.val) = false := by simpa using h
    simp [IntOp.cmpi, FloatOps.sitofp, h']

theorem xw0_apply (n : Fin 1024) (k : Fin 512) :
    xw0 D c (ix2 n k) = ldX D (ix2 n k) * weight (fun e => v26 D (ix2 n e)) (ldI0 D (ix2 n 0)) (ldI1 D (ix2 n 0)) (ex c 0) := by
  unfold weight
  pointwise [xw0, k0_pay11, k0_pay9, k0_pay10, k0_pay8, k0_pay5, k0_pay2, v28, k0_pay4, gid0, hit_eq, pay6_apply, pay7_apply]

theorem xw1_apply (n : Fin 1024) (k : Fin 512) :
    xw1 D c (ix2 n k) = ldX D (ix2 n k) * weight (fun e => v26 D (ix2 n e)) (ldI0 D (ix2 n 0)) (ldI1 D (ix2 n 0)) (ex c 1) := by
  unfold weight
  pointwise [xw1, k0_pay12, k0_pay9, k0_pay10, k0_pay8, k0_pay5, k0_pay2, v28, k0_pay4, gid1, hit_eq, pay6_apply, pay7_apply]

theorem xw2_apply (n : Fin 1024) (k : Fin 512) :
    xw2 D c (ix2 n k) = ldX D (ix2 n k) * weight (fun e => v26 D (ix2 n e)) (ldI0 D (ix2 n 0)) (ldI1 D (ix2 n 0)) (ex c 2) := by
  unfold weight
  pointwise [xw2, k0_pay13, k0_pay9, k0_pay10, k0_pay8, k0_pay5, k0_pay2, v28, k0_pay4, gid2, hit_eq, pay6_apply, pay7_apply]

theorem xw3_apply (n : Fin 1024) (k : Fin 512) :
    xw3 D c (ix2 n k) = ldX D (ix2 n k) * weight (fun e => v26 D (ix2 n e)) (ldI0 D (ix2 n 0)) (ldI1 D (ix2 n 0)) (ex c 3) := by
  unfold weight
  pointwise [xw3, k0_pay14, k0_pay9, k0_pay10, k0_pay8, k0_pay5, k0_pay2, v28, k0_pay4, gid3, hit_eq, pay6_apply, pay7_apply]

/-- What expert `e` adds to the entry of a token and a column. -/
def contr (x : Fin 512 → EReal) (w : Fin 16 → EReal) (W : Fin 16 → Fin 512 → EReal) (e : Fin 16) : EReal := ∑ k : Fin 512, x k * w e * W e k

/-- A row of the upper half, -/
def rowA (r : Fin 512) : Fin 1024 := ⟨r.val, by omega⟩
/-- and of the lower. -/
def rowB (r : Fin 512) : Fin 1024 := ⟨512 + r.val, by omega⟩

theorem partA_apply (q : Dev nD) (r : Fin 512) (o : Fin 256) :
    partA D c q (ix2 r o)
      = (∑ k : Fin 512, xw0 D c (ix2 (rowA r) k) * ldW D 0 q (ix3 0 k o)) + (∑ k : Fin 512, xw1 D c (ix2 (rowA r) k) * ldW D 1 q (ix3 0 k o))
        + (∑ k : Fin 512, xw2 D c (ix2 (rowA r) k) * ldW D 2 q (ix3 0 k o)) + (∑ k : Fin 512, xw3 D c (ix2 (rowA r) k) * ldW D 3 q (ix3 0 k o)) := by
  unfold rowA
  pointwise [partA, k0_pay22, k0_pay20, k0_pay21]

theorem partB_apply (q : Dev nD) (r : Fin 512) (o : Fin 256) :
    partB D c q (ix2 r o)
      = (∑ k : Fin 512, xw0 D c (ix2 (rowB r) k) * ldW D 0 q (ix3 0 k o)) + (∑ k : Fin 512, xw1 D c (ix2 (rowB r) k) * ldW D 1 q (ix3 0 k o))
        + (∑ k : Fin 512, xw2 D c (ix2 (rowB r) k) * ldW D 2 q (ix3 0 k o)) + (∑ k : Fin 512, xw3 D c (ix2 (rowB r) k) * ldW D 3 q (ix3 0 k o)) := by
  unfold rowB
  pointwise [partB, k0_pay23]

/-- Packing a matrix into a slot and reading it back changes nothing. -/
theorem unpack_pack (v : FVec Ideal S512x256 .f32) : unpack (pack v) = v := by
  funext i
  rw [eq_ix2 i]
  pointwise [unpack, pack, k0_pay1, k0_pay25]

end Cert.KernelIdeal.Moe

end
-- ==== Proof.Value.Rings.lean ====
/-
  What the rings add up to: every device's result is, at each token and column, the weighted token's product with all
  the sixteen experts, whichever device finished the chunk and in whatever order the ring added the parts.
-/
module

public import proofs.«01_k».proof.Proof.Value.Terms

@[expose] public section

set_option maxRecDepth 16384

noncomputable section

namespace Cert.KernelIdeal.Moe

open Idealize.ShloMosaic Idealize.SL.Sem Cert.KernelIdeal Cert.KernelIdeal.Gen Cert.Moe
open scoped BigOperators

variable (X : FVec Ideal S1024x512 .bf16) (R : FVec Ideal S512x16 .bf16) (J : IVec S1024x2 32)
  (W : FVec Ideal ⟨3, ![16, 512, 1024]⟩ .bf16)

/-- The token's row, -/
def rowX (n : Fin 1024) : Fin 512 → EReal := fun k => X (ix2 n k)
/-- the router, -/
def matR : Fin 512 → Fin 16 → EReal := fun k e => R (ix2 k e)
/-- and the experts' columns. -/
def colW (o : Fin 1024) : Fin 16 → Fin 512 → EReal := fun e k => W (ix3 e k o)

/-- What each expert weighs for token `n`. -/
def wt (n : Fin 1024) : Fin 16 → EReal := weight (prob (score (rowX X n) (matR R))) (J (ix2 n 0)) (J (ix2 n 1))

/-- The devices hold the tokens, the router and the routes whole, and each its four experts. -/
structure Holds (I : Dev nD → DevIn Ideal) : Prop where
  x : ∀ c, (I c).fx = X
  r : ∀ c, (I c).fr = R
  i : ∀ c, (I c).fi = J
  w : ∀ c j k o, (I c).fw (ix3 j k o) = W (ix3 (ex c j) k o)

variable {X R J W} {I : Dev nD → DevIn Ideal} (H : Holds X R J W I)

/-- One device's share of an entry. -/
def devSum (X : FVec Ideal S1024x512 .bf16) (R : FVec Ideal S512x16 .bf16) (J : IVec S1024x2 32)
    (W : FVec Ideal ⟨3, ![16, 512, 1024]⟩ .bf16) (n o : Fin 1024) (c : Dev nD) : EReal :=
  ∑ j : Fin 4, contr (rowX X n) (wt X R J n) (colW W o) (ex c j)

include H

theorem prob_held (c : Dev nD) (n : Fin 1024) (e : Fin 16) :
    v26 (I c) (ix2 n e) = prob (score (rowX X n) (matR R)) e := by
  rw [v26_apply]
  unfold rowX matR
  simp only [ldX_apply, ldR_apply, H.x, H.r]

theorem weight_held (c : Dev nD) (n : Fin 1024) (e : Fin 16) :
    weight (fun e => v26 (I c) (ix2 n e)) (ldI0 (I c) (ix2 n 0)) (ldI1 (I c) (ix2 n 0)) e = wt X R J n e := by
  unfold wt
  rw [show (fun e => v26 (I c) (ix2 n e)) = prob (score (rowX X n) (matR R)) from funext (prob_held H c n), ldI0_apply, ldI1_apply, H.i]

theorem partA_held (c q : Dev nD) (r : Fin 512) (o : Fin 256) :
    partA (I c) c q (ix2 r o) = devSum X R J W (rowA r) (col q o) c := by
  rw [partA_apply]
  unfold devSum contr rowX colW
  simp only [Fin.sum_univ_four, xw0_apply, xw1_apply, xw2_apply, xw3_apply, weight_held H, ldX_apply, ldW_apply, H.x, H.w]

theorem partB_held (c q : Dev nD) (r : Fin 512) (o : Fin 256) :
    partB (I c) c q (ix2 r o) = devSum X R J W (rowB r) (col q o) c := by
  rw [partB_apply]
  unfold devSum contr rowX colW
  simp only [Fin.sum_univ_four, xw0_apply, xw1_apply, xw2_apply, xw3_apply, weight_held H, ldX_apply, ldW_apply, H.x, H.w]

omit H in
/-- The four devices' shares are the sum over all the experts. -/
theorem devSum_sum (n o : Fin 1024) : ∑ c : Dev nD, devSum X R J W n o c = mixed (rowX X n) (wt X R J n) (colW W o) := by
  have h := Fin.sum_univ_tiles (N := 16) 4 4 rfl (contr (rowX X n) (wt X R J n) (colW W o))
  refine Eq.trans ?_ h.symm
  refine Finset.sum_congr rfl fun c _ => Finset.sum_congr rfl fun j _ => congrArg _ (Fin.ext ?_)
  show 4 * c.val + j.val = c.val * 4 + j.val
  omega

omit H in
/-- The order in which ring `a` meets the devices, -/
theorem sumA (T : Dev nD → EReal) (c : Dev nD) : T (prv (prv (prv c))) + T (prv (prv c)) + T (prv c) + T c = ∑ d : Dev nD, T d := by
  have h : (∑ d : Dev nD, T d) = T 0 + T 1 + T 2 + T 3 := Fin.sum_univ_four T
  rw [h]
  have hc : c = 0 ∨ c = 1 ∨ c = 2 ∨ c = 3 := by revert c; decide
  rcases hc with rfl | rfl | rfl | rfl
  · show T 1 + T 2 + T 3 + T 0 = _; ac_rfl
  · show T 2 + T 3 + T 0 + T 1 = _; ac_rfl
  · show T 3 + T 0 + T 1 + T 2 = _; ac_rfl
  · rfl

omit H in
/-- and the order in which ring `b` does. -/
theorem sumB (T : Dev nD → EReal) (c : Dev nD) : T (nxt (nxt (nxt c))) + T (nxt (nxt c)) + T (nxt c) + T c = ∑ d : Dev nD, T d := by
  have h : (∑ d : Dev nD, T d) = T 0 + T 1 + T 2 + T 3 := Fin.sum_univ_four T
  rw [h]
  have hc : c = 0 ∨ c = 1 ∨ c = 2 ∨ c = 3 := by revert c; decide
  rcases hc with rfl | rfl | rfl | rfl
  · show T 3 + T 2 + T 1 + T 0 = _; ac_rfl
  · show T 0 + T 3 + T 2 + T 1 = _; ac_rfl
  · show T 1 + T 0 + T 3 + T 2 = _; ac_rfl
  · show T 2 + T 1 + T 0 + T 3 = _; ac_rfl

theorem accA_held (c : Dev nD) (r : Fin 512) (o : Fin 256) :
    accA I c (ix2 r o) = mixed (rowX X (rowA r)) (wt X R J (rowA r)) (colW W (col (rot 1 c) o)) := by
  unfold accA ya2 ya1 ya0
  simp only [unpack_pack, ValueIdx.addf_apply, partA_held H]
  have e1 : prv (prv (prv c)) = rot 1 c := by revert c; decide
  have e3 : rot 2 (prv c) = rot 1 c := by revert c; decide
  rw [show col (prv (prv (prv c))) o = col (rot 1 c) o by rw [e1], e3]
  rw [sumA (devSum X R J W (rowA r) (col (rot 1 c) o)) c, devSum_sum]

theorem accB_held (c : Dev nD) (r : Fin 512) (o : Fin 256) :
    accB I c (ix2 r o) = mixed (rowX X (rowB r)) (wt X R J (rowB r)) (colW W (col (rot 3 c) o)) := by
  unfold accB yb2 yb1 yb0
  simp only [unpack_pack, ValueIdx.addf_apply, partB_held H]
  have e1 : nxt (nxt (nxt c)) = rot 3 c := by revert c; decide
  have e3 : rot 2 (nxt c) = rot 3 c := by revert c; decide
  rw [show col (nxt (nxt (nxt c))) o = col (rot 3 c) o by rw [e1], e3]
  rw [sumB (devSum X R J W (rowB r) (col (rot 3 c) o)) c, devSum_sum]

omit H in
/-- A block is what the ring finished, on whichever device. -/
theorem blk_eq (c : Dev nD) (h : Fin 2) (q : Dev nD) : blk I c h q = if h = 0 then accA I (prv q) else accB I (nxt q) := by
  unfold blk ya3 yb3
  simp only [unpack_pack]
  have ea : q = rot 1 c → c = prv q := by revert c q; decide
  have eb : q = rot 3 c → c = nxt q := by revert c q; decide
  by_cases h0 : h = 0
  · rw [if_pos h0, if_pos h0]
    by_cases hq : q = rot 1 c
    · rw [if_pos hq, ← ea hq]
    · rw [if_neg hq]
  · rw [if_neg h0, if_neg h0]
    by_cases hq : q = rot 3 c
    · rw [if_pos hq, ← eb hq]
    · rw [if_neg hq]

/-- Every device's result, entry by entry. -/
theorem outC_held (c : Dev nD) (n o : Fin 1024) :
    outC I c (ix2 n o) = mixed (rowX X n) (wt X R J n) (colW W o) := by
  unfold outC
  have hx : xOf (ix2 n o) = ix2 (⟨n.val % 512, Nat.mod_lt _ (by decide)⟩ : Fin 512) (⟨o.val % 256, Nat.mod_lt _ (by decide)⟩ : Fin 256) := by
    funext a; fin_cases a <;> rfl
  have hq : (qOf (ix2 n o)).val = o.val / 256 := rfl
  have hh : (hOf (ix2 n o)).val = n.val / 512 := rfl
  have hcol : ∀ q : Dev nD, q = qOf (ix2 n o) → col q (⟨o.val % 256, Nat.mod_lt _ (by decide)⟩ : Fin 256) = o := by
    intro q e; apply Fin.ext; show 256 * q.val + o.val % 256 = o.val; rw [e, hq]; omega
  have p1 : ∀ q : Dev nD, rot 1 (prv q) = q := by decide
  have p3 : ∀ q : Dev nD, rot 3 (nxt q) = q := by decide
  rw [hx, blk_eq]
  have hn := n.isLt
  by_cases h0 : hOf (ix2 n o) = 0
  · have : n.val / 512 = 0 := by rw [← hh, h0]; rfl
    rw [if_pos h0, accA_held H, p1, hcol _ rfl, show rowA (⟨n.val % 512, Nat.mod_lt _ (by decide)⟩ : Fin 512) = n from Fin.ext (by show n.val % 512 = n.val; omega)]
  · have : n.val / 512 = 1 := by
      have : n.val / 512 ≠ 0 := fun e => h0 (Fin.ext (hh.trans e))
      omega
    rw [if_neg h0, accB_held H, p3, hcol _ rfl, show rowB (⟨n.val % 512, Nat.mod_lt _ (by decide)⟩ : Fin 512) = n from Fin.ext (by show 512 + n.val % 512 = n.val; omega)]

end Cert.KernelIdeal.Moe

end
-- ==== Proof.Value.Ref.lean ====
/-
  What the reference computes, entry by entry, over the extended reals: the softmax of the scores, the two gates that a
  token's routes name in it, and the products of the token with the experts that they name.
-/
module

public import proofs.«01_k».proof.Proof.Gen.ReferenceIdeal.Run
public import proofs.«01_k».proof.Proof.Value.Spec
public import Idealize.ShloMosaic.Lib.Pointwise

@[expose] public section

set_option maxRecDepth 16384

noncomputable section

namespace Cert.ReferenceIdeal.Moe

open Idealize.ShloMosaic Idealize.SL.Sem Cert.ReferenceIdeal Cert.ReferenceIdeal.Gen Cert.Moe
open scoped BigOperators

variable (X : FVec Ideal S1024x512 .bf16) (R : FVec Ideal S512x16 .bf16) (J : IVec S1024x2 32)
  (W : FVec Ideal S16x512x1024 .bf16) (P : FVec Ideal S1024x16 .f32) (e : IVec S1024 32)

/-- The scores, -/
def scores : FVec Ideal S1024x16 .f32 :=
  Host.dotGeneral dot_S1024x512_S512x16_S1024x16_1_0_0_1_n_n none (extf .f32 X bitsLt_bf16_f32) (extf .f32 R bitsLt_bf16_f32)

/-- their exponentials, -/
def exps : FVec Ideal S1024x16 .f32 :=
  Host.exp (subf (scores X R) (broadcastInDim S1024x16 ![0, 1] bcast_S1024x1_S1024x16_0_1 (broadcastInDim S1024x1 ![0] bcast_S1024_S1024x1_0
    (Host.reduce FloatOps.maximumf (scores X R) (constant S_ .f32 0xFF800000#32) reducesTo_S1024x16_S1024_d1 h_S_))))

/-- and their softmax. -/
def probs : FVec Ideal S1024x16 .f32 :=
  Host.divf (exps X R) (broadcastInDim S1024x16 ![0, 1] bcast_S1024x1_S1024x16_0_1 (broadcastInDim S1024x1 ![0] bcast_S1024_S1024x1_0
    (Host.reduceAdd (exps X R) (constant S_ .f32 0x00000000#32) reducesTo_S1024x16_S1024_d1 h_S_)))

/-- The tokens' first routes, -/
def route0 : IVec S1024 32 := shapeCast _ (extractStridedSlice S1024x1 ![0, 0] J slices_S1024x2_S1024x1_0_0) shapeCasts_S1024x1_S1024
/-- and their second. -/
def route1 : IVec S1024 32 := shapeCast _ (extractStridedSlice S1024x1 ![0, 1] J slices_S1024x2_S1024x1_0_1) shapeCasts_S1024x1_S1024

/-- A route as a column, -/
def colI : IVec S1024x1 32 := broadcastInDim S1024x1 ![0] bcast_S1024_S1024x1_0 e
/-- and the token's number beside it. -/
def pairI : IVec S1024x2 32 :=
  concatenate S1024x2 1 [⟨S1024x1, broadcastInDim S1024x1 ![0] bcast_S1024_S1024x1_0 (iotaInDim S1024 32 0)⟩, ⟨S1024x1, colI e⟩] concatenates_S1024x1_S1024x1_S1024x2_d1

/-- Whether the pair lies in the softmax's table, -/
def inP : IVec S1024 1 :=
  Host.reduce IntOp.andi (andi (cmpi .sge (pairI e) (broadcastInDim S1024x2 ![] bcast_S_S1024x2 (constantI S_ 32 0#32)))
    (cmpi .sle (pairI e) (broadcastInDim S1024x2 ![0, 1] bcast_S1x2_S1024x2_0_1 (broadcastInDim S1x2 ![1] bcast_S2_S1x2_1 (fun i => lit0 (S2.rowMajor i))))))
    (constantI S_ 1 1#1) reducesTo_S1024x2_S1024_d1 h_S_

/-- and the gate that it names. -/
def gates : FVec Ideal S1024x1 .f32 :=
  broadcastInDim S1024x1 ![0] bcast_S1024_S1024x1_0 (select (inP e) (Host.gather gather_S1024x16_S1024x2_S1024_n_01_n_n_01_1_11 P (pairI e))
    (broadcastInDim S1024 ![] bcast_S_S1024 (constant S_ .f32 0x00000000#32)))

/-- Whether the route names an expert, -/
def inW : IVec S1024 1 :=
  Host.reduce IntOp.andi (andi (cmpi .sge (colI e) (broadcastInDim S1024x1 ![] bcast_S_S1024x1 (constantI S_ 32 0#32)))
    (cmpi .sle (colI e) (broadcastInDim S1024x1 ![0, 1] bcast_S1x1_S1024x1_0_1 (broadcastInDim S1x1 ![1] bcast_S1_S1x1_1 (constantI S1 32 15#32)))))
    (constantI S_ 1 1#1) reducesTo_S1024x1_S1024_d1 h_S_

/-- that expert's weights, -/
def experts : FVec Ideal S1024x512x1024 .f32 :=
  select (broadcastInDim S1024x512x1024 ![0] bcast_S1024_S1024x512x1024_0 (inW e))
    (Host.gather gather_S16x512x1024_S1024x1_S1024x512x1024_12_0_n_n_0_1_15121024 (extf .f32 W bitsLt_bf16_f32) (colI e))
    (broadcastInDim S1024x512x1024 ![] bcast_S_S1024x512x1024 (constant S_ .f32 0x00000000#32))

/-- and the tokens' products with them. -/
def prods : FVec Ideal S1024x1024 .f32 :=
  Host.dotGeneral dot_S1024x512_S1024x512x1024_S1024x1024_1_1_n_2_0_0 none (extf .f32 X bitsLt_bf16_f32) (experts W e)

/-- One route's weighted product. -/
def weighted (e' : IVec S1024 32) : FVec Ideal S1024x1024 .f32 :=
  mulf (broadcastInDim S1024x1024 ![0, 1] bcast_S1024x1_S1024x1024_0_1 (Host.divf (gates P e')
    (addf (gates P (route0 J)) (gates P (route1 J))))) (prods X W e')

/-- The reference's result. -/
def result : FVec Ideal S1024x1024 .f32 :=
  addf (weighted X J W (probs X R) (route0 J)) (weighted X J W (probs X R) (route1 J))

set_option maxHeartbeats 4000000 in
theorem res_eq (m : (ℓ : Loc nD τ sig) → Buf (Elt Ideal) ℓ) (c : Dev nD) :
    Value.res_main_v79 m c = result (m (c.tc.loc main_arg0)) (m (c.tc.loc main_arg1)) (m (c.tc.loc main_arg2)) (m (c.tc.loc main_arg3)) := rfl

theorem negInf : Ideal.ofBits .f32 0xFF800000#32 = ⊥ := by simp [Ideal.ofBits, Ideal.ieee]

theorem probs_apply (n : Fin 1024) (e : Fin 16) :
    probs X R (ix2 n e) = prob (score (fun k => X (ix2 n k)) (fun k e => R (ix2 k e))) e := by
  unfold prob score top
  pointwise [probs, exps, scores, negInf]

theorem route0_apply (n : Fin 1024) : route0 J (ix1 n) = J (ix2 n 0) := by
  pointwise [route0]

theorem route1_apply (n : Fin 1024) : route1 J (ix1 n) = J (ix2 n 1) := by
  pointwise [route1]

theorem colI_apply (n : Fin 1024) : colI e (ix2 n 0) = e (ix1 n) := by
  pointwise [colI]

/-- A conjunction over one place, -/
theorem fold1 (f : Fin 1 → BitVec 1) : Finset.fold IntOp.andi 1#1 f Finset.univ = f 0 := by
  show IntOp.andi (f 0) 1#1 = f 0
  generalize f 0 = a
  revert a; decide
/-- and over two. -/
theorem fold2 (f : Fin 2 → BitVec 1) : Finset.fold IntOp.andi 1#1 f Finset.univ = IntOp.andi (f 0) (f 1) := by
  show IntOp.andi (f 0) (IntOp.andi (f 1) 1#1) = _
  generalize f 0 = a
  generalize f 1 = b
  revert a b; decide

/-- A word between two signed bounds, the lower nought. -/
theorem between (w : BitVec 32) (b : Nat) (hb : b < 2 ^ 31) :
    IntOp.andi (IntOp.cmpi .sge w 0#32) (IntOp.cmpi .sle w (BitVec.ofNat 32 b)) = if w.toNat ≤ b then 1#1 else 0#1 := by
  have hw := w.isLt
  have hz : (0#32 : BitVec 32).toInt = 0 := rfl
  have hbn : (BitVec.ofNat 32 b).toNat = b := by rw [BitVec.toNat_ofNat, Nat.mod_eq_of_lt (by omega)]
  have hbi : (BitVec.ofNat 32 b).toInt = b := by rw [BitVec.toInt_eq_toNat_cond, hbn, if_pos (by omega)]
  have hwi := BitVec.toInt_eq_toNat_cond w
  by_cases h : w.toNat ≤ b
  · rw [if_pos (by omega)] at hwi
    have h1 : (0#32 : BitVec 32).sle w = true := by rw [BitVec.sle_iff_toInt_le, hz, hwi]; omega
    have h2 : w.sle (BitVec.ofNat 32 b) = true := by rw [BitVec.sle_iff_toInt_le, hbi, hwi]; omega
    rw [if_pos h]
    simp [IntOp.cmpi, h1, h2]
    decide
  · rw [if_neg h]
    by_cases hs : 2 * w.toNat < 2 ^ 32
    · rw [if_pos hs] at hwi
      have h2 : w.sle (BitVec.ofNat 32 b) = false := by
        rw [Bool.eq_false_iff]; intro h'; rw [BitVec.sle_iff_toInt_le, hbi, hwi] at h'; omega
      simp [IntOp.cmpi, IntOp.andi, h2]
    · rw [if_neg hs] at hwi
      have h1 : (0#32 : BitVec 32).sle w = false := by
        rw [Bool.eq_false_iff]; intro h'; rw [BitVec.sle_iff_toInt_le, hz, hwi] at h'; omega
      simp [IntOp.cmpi, IntOp.andi, h1]

theorem inW_apply (n : Fin 1024) : inW e (ix1 n) = if (e (ix1 n)).toNat ≤ 15 then 1#1 else 0#1 := by
  rw [← between _ 15 (by norm_num), ← colI_apply e n]
  pointwise [inW]
  exact fold1 _

theorem pairI_row (n : Fin 1024) : pairI e (ix2 n 0) = BitVec.ofNat 32 n.val := by
  unfold pairI
  refine (concatenate_pair_apply_left (t := S1024x2) (s₁ := S1024x1) (s₂ := S1024x1) 1 _ _ _ _ rfl (ix2 n 0) ?_).trans ?_
  · intro b; fin_cases b <;> rfl
  · pointwise []

theorem pairI_route (n : Fin 1024) : pairI e (ix2 n 1) = e (ix1 n) := by
  unfold pairI
  refine (concatenate_pair_apply_right (t := S1024x2) (s₁ := S1024x1) (s₂ := S1024x1) 1 _ _ _ _ rfl rfl (ix2 n 0) ?_ ?_).trans (colI_apply e n)
  · intro b hb; fin_cases b
    · rfl
    · exact absurd rfl hb
  · rfl

theorem inP_apply (n : Fin 1024) : inP e (ix1 n) = if (e (ix1 n)).toNat ≤ 15 then 1#1 else 0#1 := by
  have h : inP e (ix1 n) = IntOp.andi (IntOp.andi (IntOp.cmpi .sge (pairI e (ix2 n 0)) 0#32) (IntOp.cmpi .sle (pairI e (ix2 n 0)) 1023#32))
      (IntOp.andi (IntOp.cmpi .sge (pairI e (ix2 n 1)) 0#32) (IntOp.cmpi .sle (pairI e (ix2 n 1)) 15#32)) := by
    pointwise [inP]
    exact fold2 _
  rw [h, pairI_row, pairI_route, between _ 1023 (by norm_num), between _ 15 (by norm_num)]
  have hn := n.isLt
  rw [if_pos (by rw [BitVec.toNat_ofNat, Nat.mod_eq_of_lt (by omega)]; omega)]
  split <;> decide

/-- The gate's table read at a pair, -/
theorem gatherP_apply (i : IVec S1024x2 32) (n : Fin 1024) :
    Host.gather gather_S1024x16_S1024x2_S1024_n_01_n_n_01_1_11 P i (ix1 n)
      = P (ix2 ⟨min (i (ix2 n 0)).toInt.toNat 1023, by omega⟩ ⟨min (i (ix2 n 1)).toInt.toNat 15, by omega⟩) := by
  refine congrArg P ?_
  funext a
  refine Fin.ext ?_
  fin_cases a
  · show GatherDims.start _ (ix1 n) i 0 + GatherDims.batchCoord _ (ix1 n) 0 + GatherDims.offCoord _ (ix1 n) 0 = _
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    refine congrArg (fun j => min (i j).toInt.toNat 1023) ?_
    funext b; refine Fin.ext ?_
    fin_cases b <;> rfl
  · show GatherDims.start _ (ix1 n) i 1 + GatherDims.batchCoord _ (ix1 n) 1 + GatherDims.offCoord _ (ix1 n) 1 = _
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    refine congrArg (fun j => min (i j).toInt.toNat 15) ?_
    funext b; refine Fin.ext ?_
    fin_cases b <;> rfl

/-- and the experts' at a route. -/
theorem gatherW_apply (V : FVec Ideal S16x512x1024 .f32) (i : IVec S1024x1 32) (n : Fin 1024) (k : Fin 512) (o : Fin 1024) :
    Host.gather gather_S16x512x1024_S1024x1_S1024x512x1024_12_0_n_n_0_1_15121024 V i (ix3 n k o)
      = V (ix3 ⟨min (i (ix2 n 0)).toInt.toNat 15, by omega⟩ k o) := by
  refine congrArg V ?_
  funext a
  refine Fin.ext ?_
  fin_cases a
  · show GatherDims.start _ (ix3 n k o) i 0 + GatherDims.batchCoord _ (ix3 n k o) 0 + GatherDims.offCoord _ (ix3 n k o) 0 = _
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    refine congrArg (fun j => min (i j).toInt.toNat 15) ?_
    funext b; refine Fin.ext ?_
    fin_cases b <;> rfl
  · show GatherDims.start _ (ix3 n k o) i 1 + GatherDims.batchCoord _ (ix3 n k o) 1 + GatherDims.offCoord _ (ix3 n k o) 1 = _
    rw [GatherDims.batchCoord_eq_zero _ _ _ List.not_mem_nil]
    unfold GatherDims.start GatherDims.offCoord
    rw [dif_neg (by decide), dif_pos (by decide)]
    exact Nat.zero_add _
  · show GatherDims.start _ (ix3 n k o) i 2 + GatherDims.batchCoord _ (ix3 n k o) 2 + GatherDims.offCoord _ (ix3 n k o) 2 = _
    rw [GatherDims.batchCoord_eq_zero _ _ _ List.not_mem_nil]
    unfold GatherDims.start GatherDims.offCoord
    rw [dif_neg (by decide), dif_pos (by decide)]
    exact Nat.zero_add _

/-- A small word's number, read signed and clamped. -/
theorem clamp (w : BitVec 32) (b : Nat) (hb : b < 2 ^ 31) (h : w.toNat ≤ b) : min w.toInt.toNat b = w.toNat := by
  rw [BitVec.toInt_eq_toNat_cond, if_pos (by omega)]
  omega

theorem gates_apply (n : Fin 1024) : gates P e (ix2 n 0) = pick (fun a => P (ix2 n a)) (e (ix1 n)) := by
  have h : gates P e (ix2 n 0) = Scalar.select (inP e (ix1 n))
      (Host.gather gather_S1024x16_S1024x2_S1024_n_01_n_n_01_1_11 P (pairI e) (ix1 n)) 0 := by
    pointwise [gates]
  rw [h, inP_apply, gatherP_apply]
  unfold pick
  by_cases hw : (e (ix1 n)).toNat < 16
  · rw [if_pos (by omega), dif_pos hw]
    refine congrArg P ?_
    have hn := n.isLt
    have e1 : (⟨min (pairI e (ix2 n 0)).toInt.toNat 1023, by omega⟩ : Fin 1024) = n := by
      refine Fin.ext ?_
      have hv : (BitVec.ofNat 32 n.val).toNat = n.val := by rw [BitVec.toNat_ofNat, Nat.mod_eq_of_lt (by omega)]
      show min (pairI e (ix2 n 0)).toInt.toNat 1023 = n.val
      rw [pairI_row, clamp _ _ (by norm_num) (by omega), hv]
    have e2 : (⟨min (pairI e (ix2 n 1)).toInt.toNat 15, by omega⟩ : Fin 16) = ⟨(e (ix1 n)).toNat, hw⟩ := by
      refine Fin.ext ?_
      show min (pairI e (ix2 n 1)).toInt.toNat 15 = (e (ix1 n)).toNat
      rw [pairI_route, clamp _ _ (by norm_num) (by omega)]
    rw [e1, e2]
  · rw [if_neg (by omega), dif_neg hw]
    rfl

theorem experts_apply (n o : Fin 1024) (k : Fin 512) : experts W e (ix3 n k o) = pick (fun a => W (ix3 a k o)) (e (ix1 n)) := by
  have h : experts W e (ix3 n k o) = Scalar.select (inW e (ix1 n))
      (Host.gather gather_S16x512x1024_S1024x1_S1024x512x1024_12_0_n_n_0_1_15121024 (extf .f32 W bitsLt_bf16_f32) (colI e) (ix3 n k o)) 0 := by
    pointwise [experts]
  rw [h, inW_apply, gatherW_apply]
  unfold pick
  by_cases hw : (e (ix1 n)).toNat < 16
  · rw [if_pos (by omega), dif_pos hw]
    refine congrArg W ?_
    have e1 : (⟨min (colI e (ix2 n 0)).toInt.toNat 15, by omega⟩ : Fin 16) = ⟨(e (ix1 n)).toNat, hw⟩ := by
      refine Fin.ext ?_
      show min (colI e (ix2 n 0)).toInt.toNat 15 = (e (ix1 n)).toNat
      rw [colI_apply, clamp _ _ (by norm_num) (by omega)]
    rw [e1]
  · rw [if_neg (by omega), dif_neg hw]
    rfl

theorem prods_apply (n o : Fin 1024) :
    prods X W e (ix2 n o) = ∑ k : Fin 512, X (ix2 n k) * pick (fun a => W (ix3 a k o)) (e (ix1 n)) := by
  simp only [← experts_apply]
  pointwise [prods]

/-- The reference's result, entry by entry. -/
theorem result_apply (n o : Fin 1024) : result X R J W (ix2 n o)
    = chosen (fun k => X (ix2 n k)) (prob (score (fun k => X (ix2 n k)) (fun k e => R (ix2 k e)))) (J (ix2 n 0)) (J (ix2 n 1))
        (fun e k => W (ix3 e k o)) := by
  have h : result X R J W (ix2 n o)
      = Ideal.div (gates (probs X R) (route0 J) (ix2 n 0)) (gates (probs X R) (route0 J) (ix2 n 0) + gates (probs X R) (route1 J) (ix2 n 0))
          * prods X W (route0 J) (ix2 n o)
        + Ideal.div (gates (probs X R) (route1 J) (ix2 n 0)) (gates (probs X R) (route0 J) (ix2 n 0) + gates (probs X R) (route1 J) (ix2 n 0))
          * prods X W (route1 J) (ix2 n o) := by
    pointwise [result, weighted]
  rw [h]
  simp only [gates_apply, prods_apply, route0_apply, route1_apply, probs_apply]
  rfl

end Cert.ReferenceIdeal.Moe

end
-- ==== Proof.Value.Finite.lean ====
/-
  What the precondition says over the extended reals: every entry of the tokens and of the router is a real number.
-/
module

public import proofs.«01_k».proof.Pre_finite_KernelIdeal
public import proofs.«01_k».proof.Pre_finite_ReferenceIdeal
public import Idealize.ShloMosaic.Lib.Pointwise
public import Idealize.ShloMosaic.Lib.ReduceAll

@[expose] public section

set_option maxRecDepth 16384

noncomputable section

namespace Cert.Moe

open Idealize.ShloMosaic
open scoped BigOperators

/-- The precondition's side conditions, on the kernel's arrays -/
theorem pre_facts : Cert.Pre_finite_KernelIdeal.Facts where
  bitsLt_bf16_f32 := by decide
  bcast_S_S1024x512 := by decide
  reducesTo_S1024x512_S_d0_1 := by decide
  h_S_ := by decide
  bcast_S_S512x16 := by decide
  reducesTo_S512x16_S_d0_1 := by decide

/-- and on the reference's. -/
theorem pre_facts_ref : Cert.Pre_finite_ReferenceIdeal.Facts where
  bitsLt_bf16_f32 := by decide
  bcast_S_S1024x512 := by decide
  reducesTo_S1024x512_S_d0_1 := by decide
  h_S_ := by decide
  bcast_S_S512x16 := by decide
  reducesTo_S512x16_S_d0_1 := by decide

attribute [local instance] pre_facts

open Cert.Pre_finite_KernelIdeal

/-- A value whose magnitude is less than infinity is a real number. -/
theorem real_of_lt (a : EReal)
    (h : FloatOps.cmpf (F := Ideal) (φ := .f32) .olt (FloatOps.hostAbsf (F := Ideal) (φ := .f32) a) (Ideal.ofBits .f32 0x7F800000#32) = 1#1) :
    ∃ r : ℝ, a = r := by
  have hi : Ideal.ofBits .f32 0x7F800000#32 = ⊤ := by simp [Ideal.ofBits, Ideal.ieee]
  rw [hi] at h
  induction a with
  | bot => simp [FloatOps.cmpf, FloatOps.hostAbsf, Ideal.cmp] at h
  | top => simp [FloatOps.cmpf, FloatOps.hostAbsf, Ideal.cmp] at h
  | coe r => exact ⟨r, rfl⟩

theorem real_of_pre (X : FVec Ideal S1024x512 .bf16) (R : FVec Ideal S512x16 .bf16) (J : IVec S1024x2 32) (W : FVec Ideal S4x512x1024 .bf16)
    (h : fn X R J W = fun _ => 1#1) : (∀ i, ∃ r : ℝ, X i = r) ∧ ∀ i, ∃ r : ℝ, R i = r := by
  have : Subsingleton S_.Idx := ⟨fun a b => funext fun i => i.elim0⟩
  have h0 := congrFun h (fun a => a.elim0)
  have split : ∀ a b : BitVec 1, IntOp.andi a b = 1#1 → a = 1#1 ∧ b = 1#1 := by decide
  obtain ⟨hX, hR⟩ := split _ _ h0
  exact ⟨fun i => real_of_lt _ (Host.reduce_andi_all _ _ _ _ _ hX i), fun i => real_of_lt _ (Host.reduce_andi_all _ _ _ _ _ hR i)⟩

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Ideal.Launch
public import proofs.«01_k».proof.Proof.Value.Rings
public import proofs.«01_k».proof.Proof.Value.Ref
public import proofs.«01_k».proof.Proof.Value.Finite
public import Idealize.ShloMosaic.Adequacy
public import Idealize.ShloMosaic.Init

@[expose] public section

noncomputable section

namespace Cert.Proof

open Idealize.ShloMosaic Idealize.SL.Sem Cert.Kernel

/-- The kernel's frame, at the machine's floats. -/
theorem frame_kernel : Cert.quiescent_Kernel (hKernel := Cert.Kernel.Gen.facts) := by
  intro m ρ _
  exact (θ_run Cert.Kernel.defs _ _).mono (fun _ h => ⟨fun c => (h.1 c).2, h.2⟩) (Cert.Kernel.Moe.run_main (F := Bits) m ρ)

/-- The kernel's frame, over the extended reals. -/
theorem frame_ideal : Cert.quiescent_KernelIdeal (hKernelIdeal := Cert.KernelIdeal.Gen.facts) := by
  intro m ρ _
  exact (θ_run Cert.KernelIdeal.defs _ _).mono (fun _ h => ⟨fun c => (h.1 c).2, h.2⟩) (Cert.KernelIdeal.Moe.run_main (F := Ideal) m ρ)

/-- The reference's frame: it has no semaphore at all. -/
theorem frame_reference : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The kernel's frame where the inputs are finite, -/
theorem frame_ideal_finite : Cert.quiescent_KernelIdeal_pre_finite_KernelIdeal (hKernelIdeal := Cert.KernelIdeal.Gen.facts)
    (hPre_finite_KernelIdeal := Cert.Moe.pre_facts) := fun m ρ _ => frame_ideal m ρ trivial

/-- and the reference's. -/
theorem frame_reference_finite : Cert.quiescent_ReferenceIdeal_pre_finite_ReferenceIdeal (hReferenceIdeal := Cert.ReferenceIdeal.Gen.facts)
    (hPre_finite_ReferenceIdeal := Cert.Moe.pre_facts_ref) := fun m ρ _ => frame_reference m ρ trivial

/-- Where the tokens and the router are finite, every device's result is the reference's. -/
theorem result_eq (I : Dev Cert.KernelIdeal.nD → Cert.KernelIdeal.Moe.DevIn Ideal) (X : FVec Ideal ⟨2, ![1024, 512]⟩ .bf16)
    (R : FVec Ideal ⟨2, ![512, 16]⟩ .bf16) (J : IVec ⟨2, ![1024, 2]⟩ 32) (W : FVec Ideal ⟨3, ![16, 512, 1024]⟩ .bf16)
    (H : Cert.KernelIdeal.Moe.Holds X R J W I) (hX : ∀ i, ∃ r : ℝ, X i = r) (hR : ∀ i, ∃ r : ℝ, R i = r) (c : Dev Cert.KernelIdeal.nD) :
    Cert.KernelIdeal.Moe.outC I c = Cert.ReferenceIdeal.Moe.result X R J W := by
  funext i
  obtain ⟨n, o, rfl⟩ : ∃ (n o : Fin 1024), i = ix2 n o := ⟨i 0, i 1, funext fun a => by fin_cases a <;> rfl⟩
  refine (Cert.KernelIdeal.Moe.outC_held H c n o).trans (Eq.trans ?_ (Cert.ReferenceIdeal.Moe.result_apply X R J W n o).symm)
  exact Cert.Moe.mixed_eq_chosen (fun k => hX _) (fun k e => hR _) _ _ _

/-- The kernel computes the reference's result on every device. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Moe.pre_facts) := by
  intro m ρ m' ρ' hf hm
  have hfin := Cert.Moe.real_of_pre _ _ _ _ (hf 0)
  have H : Cert.KernelIdeal.Moe.Holds (m ((0 : Dev Cert.KernelIdeal.nD).tc.loc Cert.KernelIdeal.main_arg0)) (m ((0 : Dev Cert.KernelIdeal.nD).tc.loc Cert.KernelIdeal.main_arg1))
      (m ((0 : Dev Cert.KernelIdeal.nD).tc.loc Cert.KernelIdeal.main_arg2))
      (m' ((0 : Dev Cert.ReferenceIdeal.nD).tc.loc Cert.ReferenceIdeal.main_arg3)) (Cert.KernelIdeal.Moe.inOf m) := by
    refine ⟨fun c => ?_, fun c => ?_, fun c => ?_, fun c j k o => ?_⟩
    · rw [Cert.KernelIdeal.Moe.inOf_eq]; exact (hm c).1.trans (hm 0).1.symm
    · rw [Cert.KernelIdeal.Moe.inOf_eq]; exact (hm c).2.1.trans (hm 0).2.1.symm
    · rw [Cert.KernelIdeal.Moe.inOf_eq]; exact (hm c).2.2.1.trans (hm 0).2.2.1.symm
    · rw [Cert.KernelIdeal.Moe.inOf_eq]
      refine (congrFun (hm c).2.2.2 _).trans ?_
      refine congrArg (m' ((0 : Dev Cert.ReferenceIdeal.nD).tc.loc Cert.ReferenceIdeal.main_arg3)) ?_
      funext a
      refine Fin.ext ?_
      rw [Layout.Tiles.idx_val]
      fin_cases a
      · show c.val * 4 + j.val = 4 * c.val + j.val; omega
      · rfl
      · rfl
  refine ⟨Cert.ReferenceIdeal.Value.res_main_v79 m' 0, ?_, ?_⟩
  · refine (θ_run Cert.KernelIdeal.defs _ _).mono (fun _ h c => ⟨(h.1 c).1.trans ?_, (h.1 c).2⟩) (Cert.KernelIdeal.Moe.run_main (F := Ideal) m ρ)
    rw [result_eq _ _ _ _ _ H hfin.1 hfin.2 c, Cert.ReferenceIdeal.Moe.res_eq, (hm 0).1, (hm 0).2.1, (hm 0).2.2.1]
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts, Cert.Moe.pre_facts, Cert.Moe.pre_facts_ref,
  frame_kernel, frame_ideal, frame_ideal_finite, frame_reference, frame_reference_finite, trivial, algebraic⟩

end Cert.Proof

end
